-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_RefFfnSampleIdeal (m : (ℓ : Loc Cert.RefFfnSampleIdeal.nD Cert.RefFfnSampleIdeal.τ Cert.RefFfnSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ r.2.sem = fun _ => 0)

def quiescent_RefFfnSampleIdeal [hRefFfnSampleIdeal : Cert.RefFfnSampleIdeal.Facts] : Prop :=
  ∀ (m : (ℓ : Loc Cert.RefFfnSampleIdeal.nD Cert.RefFfnSampleIdeal.τ Cert.RefFfnSampleIdeal.sig) → Buf (Elt Ideal) ℓ) (g : Dev Cert.RefFfnSampleIdeal.nD → PrngReg), Pre_RefFfnSampleIdeal m →
    θ_run (Cert.RefFfnSampleIdeal.defs (F := Ideal)) (onTc (τ := Cert.RefFfnSampleIdeal.τ) (Cert.RefFfnSampleIdeal.main (F := Ideal))) ⟨m, fun _ => 0, g⟩ (fun r => (∀ c : Dev Cert.RefFfnSampleIdeal.nD,
      r.2.mem ((c.tc : Thread Cert.RefFfnSampleIdeal.nD Cert.RefFfnSampleIdeal.τ).loc Cert.RefFfnSampleIdeal.main_arg0) = m ((c.tc : Thread Cert.RefFfnSampleIdeal.nD Cert.RefFfnSampleIdeal.τ).loc Cert.RefFfnSampleIdeal.main_arg0)
      ∧ r.2.mem ((c.tc : Thread Cert.RefFfnSampleIdeal.nD Cert.RefFfnSampleIdeal.τ).loc Cert.RefFfnSampleIdeal.main_arg1) = m ((c.tc : Thread Cert.RefFfnSampleIdeal.nD Cert.RefFfnSampleIdeal.τ).loc Cert.RefFfnSampleIdeal.main_arg1)
      ∧ r.2.mem ((c.tc : Thread Cert.RefFfnSampleIdeal.nD Cert.RefFfnSampleIdeal.τ).loc Cert.RefFfnSampleIdeal.main_arg2) = m ((c.tc : Thread Cert.RefFfnSampleIdeal.nD Cert.RefFfnSampleIdeal.τ).loc Cert.RefFfnSampleIdeal.main_arg2)
      ∧ r.2.mem ((c.tc : Thread Cert.RefFfnSampleIdeal.nD Cert.RefFfnSampleIdeal.τ).loc Cert.RefFfnSampleIdeal.main_arg3) = m ((c.tc : Thread Cert.RefFfnSampleIdeal.nD Cert.RefFfnSampleIdeal.τ).loc Cert.RefFfnSampleIdeal.main_arg3)
      ∧ r.2.mem ((c.tc : Thread Cert.RefFfnSampleIdeal.nD Cert.RefFfnSampleIdeal.τ).loc Cert.RefFfnSampleIdeal.main_arg4) = m ((c.tc : Thread Cert.RefFfnSampleIdeal.nD Cert.RefFfnSampleIdeal.τ).loc Cert.RefFfnSampleIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v34) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)
      ∧ m' ((c.tc : Thread Cert.RefMixIdeal.nD Cert.RefMixIdeal.τ).loc Cert.RefMixIdeal.main_arg5) = m ((c.tc : Thread Cert.MixIdeal.nD Cert.MixIdeal.τ).loc Cert.MixIdeal.main_arg5)
      ∧ m' ((c.tc : Thread Cert.RefMixIdeal.nD Cert.RefMixIdeal.τ).loc Cert.RefMixIdeal.main_arg6) = m ((c.tc : Thread Cert.MixIdeal.nD Cert.MixIdeal.τ).loc Cert.MixIdeal.main_arg6)
      ∧ m' ((c.tc : Thread Cert.RefMixIdeal.nD Cert.RefMixIdeal.τ).loc Cert.RefMixIdeal.main_arg7) = m ((c.tc : Thread Cert.MixIdeal.nD Cert.MixIdeal.τ).loc Cert.MixIdeal.main_arg7)
      ∧ m' ((c.tc : Thread Cert.RefMixIdeal.nD Cert.RefMixIdeal.τ).loc Cert.RefMixIdeal.main_arg8) = m ((c.tc : Thread Cert.MixIdeal.nD Cert.MixIdeal.τ).loc Cert.MixIdeal.main_arg8)
      ∧ m' ((c.tc : Thread Cert.RefMixIdeal.nD Cert.RefMixIdeal.τ).loc Cert.RefMixIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v75) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8)
          ∧ r.2.mem ((c.tc : Thread Cert.RefMixIdeal.nD Cert.RefMixIdeal.τ).loc Cert.RefMixIdeal.main_arg9) = m' ((c.tc : Thread Cert.RefMixIdeal.nD Cert.RefMixIdeal.τ).loc Cert.RefMixIdeal.main_arg9))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v21) = v0 c
          ∧ r.2.mem ((c.tc : Thread Cert.RefQkvIdeal.nD Cert.RefQkvIdeal.τ).loc Cert.RefQkvIdeal.main_v22) = v1 c
          ∧ r.2.mem ((c.tc : Thread Cert.RefQkvIdeal.nD Cert.RefQkvIdeal.τ).loc Cert.RefQkvIdeal.main_v23) = v2 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_FfnSample_FfnSampleIdeal : Prop :=
  True

def algebraic_FfnSampleIdeal_RefFfnSampleIdeal [hFfnSampleIdeal : Cert.FfnSampleIdeal.Facts] [hRefFfnSampleIdeal : Cert.RefFfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.RefFfnSampleIdeal.nD Cert.RefFfnSampleIdeal.τ Cert.RefFfnSampleIdeal.sig) → Buf (Elt Ideal) ℓ) (g' : Dev Cert.RefFfnSampleIdeal.nD → PrngReg), Pre_FfnSampleIdeal m →
    (∀ c : Dev Cert.FfnSampleIdeal.nD,
      m' ((c.tc : Thread Cert.RefFfnSampleIdeal.nD Cert.RefFfnSampleIdeal.τ).loc Cert.RefFfnSampleIdeal.main_arg0) = m ((c.tc : Thread Cert.FfnSampleIdeal.nD Cert.FfnSampleIdeal.τ).loc Cert.FfnSampleIdeal.main_arg0)
      ∧ m' ((c.tc : Thread Cert.RefFfnSampleIdeal.nD Cert.RefFfnSampleIdeal.τ).loc Cert.RefFfnSampleIdeal.main_arg1) = m ((c.tc : Thread Cert.FfnSampleIdeal.nD Cert.FfnSampleIdeal.τ).loc Cert.FfnSampleIdeal.main_arg1)
      ∧ m' ((c.tc : Thread Cert.RefFfnSampleIdeal.nD Cert.RefFfnSampleIdeal.τ).loc Cert.RefFfnSampleIdeal.main_arg2) = m ((c.tc : Thread Cert.FfnSampleIdeal.nD Cert.FfnSampleIdeal.τ).loc Cert.FfnSampleIdeal.main_arg2)
      ∧ m' ((c.tc : Thread Cert.RefFfnSampleIdeal.nD Cert.RefFfnSampleIdeal.τ).loc Cert.RefFfnSampleIdeal.main_arg3) = m ((c.tc : Thread Cert.FfnSampleIdeal.nD Cert.FfnSampleIdeal.τ).loc Cert.FfnSampleIdeal.main_arg3)
      ∧ m' ((c.tc : Thread Cert.RefFfnSampleIdeal.nD Cert.RefFfnSampleIdeal.τ).loc Cert.RefFfnSampleIdeal.main_arg4) = m ((c.tc : Thread Cert.FfnSampleIdeal.nD Cert.FfnSampleIdeal.τ).loc Cert.FfnSampleIdeal.main_arg4)) →
    ∃ (v0 : (c : Dev Cert.FfnSampleIdeal.nD) → Buf (Elt Ideal) ((c.tc : Thread Cert.FfnSampleIdeal.nD Cert.FfnSampleIdeal.τ).loc Cert.FfnSampleIdeal.main_v12)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v12) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ θ_run (Cert.RefFfnSampleIdeal.defs (F := Ideal)) (onTc (τ := Cert.RefFfnSampleIdeal.τ) (Cert.RefFfnSampleIdeal.main (F := Ideal))) ⟨m', fun _ => 0, g'⟩ (fun r => ∀ c : Dev Cert.RefFfnSampleIdeal.nD,
          r.2.mem ((c.tc : Thread Cert.RefFfnSampleIdeal.nD Cert.RefFfnSampleIdeal.τ).loc Cert.RefFfnSampleIdeal.main_v34) = v0 c
          ∧ r.2.mem ((c.tc : Thread Cert.RefFfnSampleIdeal.nD Cert.RefFfnSampleIdeal.τ).loc Cert.RefFfnSampleIdeal.main_arg0) = m' ((c.tc : Thread Cert.RefFfnSampleIdeal.nD Cert.RefFfnSampleIdeal.τ).loc Cert.RefFfnSampleIdeal.main_arg0)
          ∧ r.2.mem ((c.tc : Thread Cert.RefFfnSampleIdeal.nD Cert.RefFfnSampleIdeal.τ).loc Cert.RefFfnSampleIdeal.main_arg1) = m' ((c.tc : Thread Cert.RefFfnSampleIdeal.nD Cert.RefFfnSampleIdeal.τ).loc Cert.RefFfnSampleIdeal.main_arg1)
          ∧ r.2.mem ((c.tc : Thread Cert.RefFfnSampleIdeal.nD Cert.RefFfnSampleIdeal.τ).loc Cert.RefFfnSampleIdeal.main_arg2) = m' ((c.tc : Thread Cert.RefFfnSampleIdeal.nD Cert.RefFfnSampleIdeal.τ).loc Cert.RefFfnSampleIdeal.main_arg2)
          ∧ r.2.mem ((c.tc : Thread Cert.RefFfnSampleIdeal.nD Cert.RefFfnSampleIdeal.τ).loc Cert.RefFfnSampleIdeal.main_arg3) = m' ((c.tc : Thread Cert.RefFfnSampleIdeal.nD Cert.RefFfnSampleIdeal.τ).loc Cert.RefFfnSampleIdeal.main_arg3)
          ∧ r.2.mem ((c.tc : Thread Cert.RefFfnSampleIdeal.nD Cert.RefFfnSampleIdeal.τ).loc Cert.RefFfnSampleIdeal.main_arg4) = m' ((c.tc : Thread Cert.RefFfnSampleIdeal.nD Cert.RefFfnSampleIdeal.τ).loc Cert.RefFfnSampleIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hRefFfnIdeal : Cert.RefFfnIdeal.Facts) (hMix : Cert.Mix.Facts) (hMixIdeal : Cert.MixIdeal.Facts) (hRefMixIdeal : Cert.RefMixIdeal.Facts) (hQkv : Cert.Qkv.Facts) (hQkvIdeal : Cert.QkvIdeal.Facts) (hRefQkvIdeal : Cert.RefQkvIdeal.Facts) (hFfnSample : Cert.FfnSample.Facts) (hFfnSampleIdeal : Cert.FfnSampleIdeal.Facts) (hRefFfnSampleIdeal : Cert.RefFfnSampleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_RefFfnIdeal (hRefFfnIdeal := hRefFfnIdeal)
    ∧ quiescent_Mix (hMix := hMix)
    ∧ quiescent_MixIdeal (hMixIdeal := hMixIdeal)
    ∧ quiescent_RefMixIdeal (hRefMixIdeal := hRefMixIdeal)
    ∧ quiescent_Qkv (hQkv := hQkv)
    ∧ quiescent_QkvIdeal (hQkvIdeal := hQkvIdeal)
    ∧ quiescent_RefQkvIdeal (hRefQkvIdeal := hRefQkvIdeal)
    ∧ quiescent_FfnSample (hFfnSample := hFfnSample)
    ∧ quiescent_FfnSampleIdeal (hFfnSampleIdeal := hFfnSampleIdeal)
    ∧ quiescent_RefFfnSampleIdeal (hRefFfnSampleIdeal := hRefFfnSampleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_RefFfnIdeal (hFfnIdeal := hFfnIdeal) (hRefFfnIdeal := hRefFfnIdeal)
    ∧ preserves_Mix_MixIdeal
    ∧ algebraic_MixIdeal_RefMixIdeal (hMixIdeal := hMixIdeal) (hRefMixIdeal := hRefMixIdeal)
    ∧ preserves_Qkv_QkvIdeal
    ∧ algebraic_QkvIdeal_RefQkvIdeal (hQkvIdeal := hQkvIdeal) (hRefQkvIdeal := hRefQkvIdeal)
    ∧ preserves_FfnSample_FfnSampleIdeal
    ∧ algebraic_FfnSampleIdeal_RefFfnSampleIdeal (hFfnSampleIdeal := hFfnSampleIdeal) (hRefFfnSampleIdeal := hRefFfnSampleIdeal)
-- ==== Pre_finite.lean ====
abbrev S4x4096x1024 : Shape := ⟨3, ![4, 4096, 1024]⟩
abbrev S32x15x31 : Shape := ⟨3, ![32, 15, 31]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S32x15x31 : S_.BroadcastsInDim S32x15x31 (![] : Fin 0 → Fin S32x15x31.rank)
  reducesTo_S32x15x31_S_d0_1_2 : S32x15x31.ReducesTo [0, 1, 2] S_

variable [Facts]

def fn {F : FTy → Type} [FloatOps F] (main_arg0 : FVec F S4x4096x1024 .bf16) (main_arg1 : FVec F S4x4096x1024 .bf16) (main_arg2 : FVec F S4x4096x1024 .bf16) (main_arg3 : FVec F S32x15x31 .f32) : IVec S_ 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  let main_v5 : FVec F S4x4096x1024 .f32 := (extf .f32 · bitsLt_bf16_f32) main_arg1
  let main_v6 : FVec F S4x4096x1024 .f32 := Host.absf main_v5
  let main_cst_0 : FVec F S_ .f32 := constant S_ .f32 0x7F800000#32
  let main_v7 : FVec F S4x4096x1024 .f32 := broadcastInDim S4x4096x1024 ![] bcast_S_S4x4096x1024 main_cst_0
  let main_v8 : IVec S4x4096x1024 1 := cmpf .olt main_v6 main_v7
  let main_c_1 : IVec S_ 1 := constantI S_ 1 1#1
  let main_v9 : IVec S_ 1 := (fun x v => Host.reduce IntOp.andi x v reducesTo_S4x4096x1024_S_d0_1_2 h_S_) main_v8 main_c_1
  let main_v10 : IVec S_ 1 := andi main_v4 main_v9
  let main_v11 : FVec F S32x15x31 .f32 := Host.absf main_arg3
  let main_cst_2 : FVec F S_ .f32 := constant S_ .f32 0x7F800000#32
  let main_v12 : FVec F S32x15x31 .f32 := broadcastInDim S32x15x31 ![] bcast_S_S32x15x31 main_cst_2
  let main_v13 : IVec S32x15x31 1 := cmpf .olt main_v11 main_v12
  let main_c_3 : IVec S_ 1 := constantI S_ 1 1#1
  let main_v14 : IVec S_ 1 := (fun x v => Host.reduce IntOp.andi x v reducesTo_S32x15x31_S_d0_1_2 h_S_) main_v13 main_c_3
  let main_v15 : IVec S_ 1 := andi main_v10 main_v14
  main_v15
-- ==== Kernel.lean ====
abbrev S4x4096x1024 : Shape := ⟨3, ![4, 4096, 1024]⟩
abbrev S32x15x31 : Shape := ⟨3, ![32, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x1x64x64 : Shape := ⟨4, ![1, 1, 64, 64]⟩
abbrev S64x64x1 : Shape := ⟨3, ![64, 64, 1]⟩
abbrev S32x15x64x64 : Shape := ⟨4, ![32, 15, 64, 64]⟩
abbrev S32x14x64x64 : Shape := ⟨4, ![32, 14, 64, 64]⟩
abbrev S32x14x64x128 : Shape := ⟨4, ![32, 14, 64, 128]⟩
abbrev S1x1024x1024 : Shape := ⟨3, ![1, 1024, 1024]⟩
abbrev S1x256x1024 : Shape := ⟨3, ![1, 256, 1024]⟩
abbrev S1536x1024 : Shape := ⟨2, ![1536, 1024]⟩
abbrev S256x1024 : Shape := ⟨2, ![256, 1024]⟩
abbrev S1024x1024 : Shape := ⟨2, ![1024, 1024]⟩
abbrev S64x128 : Shape := ⟨2, ![64, 128]⟩
abbrev S1x64x128 : Shape := ⟨3, ![1, 64, 128]⟩
abbrev S256x128 : Shape := ⟨2, ![256, 128]⟩
abbrev S512x128 : Shape := ⟨2, ![512, 128]⟩
abbrev S256x512 : Shape := ⟨2, ![256, 512]⟩
abbrev S1x1x64x128 : Shape := ⟨4, ![1, 1, 64, 128]⟩
abbrev S64x512 : Shape := ⟨2, ![64, 512]⟩
abbrev S256 : Shape := ⟨1, ![256]⟩
abbrev S256x1 : Shape := ⟨2, ![256, 1]⟩

abbrev nBuf : Space → Nat
  | .hbm => 69
  | .vmem => 19
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S32x15x31, .f32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S1x64, .i32⟩
  | .hbm, ⟨18, _⟩ => ⟨S64x1, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S1x64, .i32⟩
  | .hbm, ⟨23, _⟩ => ⟨S64x1, .i32⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x64, .i1⟩
  | .hbm, ⟨31, _⟩ => ⟨S1x64, .i32⟩
  | .hbm, ⟨32, _⟩ => ⟨S64x1, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S1x1x64x64, .i1⟩
  | .hbm, ⟨51, _⟩ => ⟨S_, .i32⟩
  | .hbm, ⟨52, _⟩ => ⟨S64x64, .i32⟩
  | .hbm, ⟨53, _⟩ => ⟨S64x64, .i1⟩
  | .hbm, ⟨54, _⟩ => ⟨S_, .i32⟩
  | .hbm, ⟨55, _⟩ => ⟨S64x64, .i32⟩
  | .hbm, ⟨56, _⟩ => ⟨S64x64, .i32⟩
  | .hbm, ⟨57, _⟩ => ⟨S64x64, .i32⟩
  | .hbm, ⟨58, _⟩ => ⟨S64x64x1, .i32⟩
  | .hbm, ⟨59, _⟩ => ⟨S32x15x64x64, .f32⟩
  | .hbm, ⟨60, _⟩ => ⟨S_, .f32⟩
  | .hbm, ⟨61, _⟩ => ⟨S_, .f32⟩
  | .hbm, ⟨62, _⟩ => ⟨S32x15x64x64, .i1⟩
  | .hbm, ⟨63, _⟩ => ⟨S32x15x64x64, .f32⟩
  | .hbm, ⟨64, _⟩ => ⟨S32x15x64x64, .f32⟩
  | .hbm, ⟨65, _⟩ => ⟨S32x14x64x64, .f32⟩
  | .hbm, ⟨66, _⟩ => ⟨S32x14x64x64, .f32⟩
  | .hbm, ⟨67, _⟩ => ⟨S32x14x64x128, .f32⟩
  | .hbm, ⟨68, _⟩ => ⟨S4x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S32x14x64x128, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1536x1024, .bf16⟩
  | .local _ .vmem, ⟨18, _⟩ => ⟨S1536x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_33 : BitVec 32 := 0#32
  let c16_i32_34 : BitVec 32 := 16#32
  let v64 : BitVec 32 := Scalar.addi c0_i32_33 c16_i32_34
  let c1_i32_35 : BitVec 32 := 1#32
  ⟨c0_i32_33, v64, c1_i32_35⟩
def k0_mult1 (i : grid0.Coords) (k0_t1 : Fin k0_t1_loop.trips) : BitVec 32 :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  v74
def k0_mult2 (k0_t1 : Fin k0_t1_loop.trips) : BitVec 32 :=
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  v76
def k0_off1 (k0_t1 : Fin k0_t1_loop.trips) : Fin 3 → Nat :=
  let c0_41 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v78 : Index := Scalar.indexCast v77
  let c0_42 : Index := 0#32
  ![0, v78.toNat, 0]
def k0_off2 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v90 : Index := Scalar.indexCast v75
  let c0_46 : Index := 0#32
  ![v90.toNat, 0]
def k0_off3 (i : grid0.Coords) (k0_t1 : Fin k0_t1_loop.trips) (c0_i32_49 : BitVec 32) : Fin 4 → Nat :=
  let c0_50 : Index := 0#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v95 : BitVec 32 := Scalar.addi v71 c0_i32_49
  let v96 : Index := Scalar.indexCast v95
  let c0_51 : Index := 0#32
  let c0_52 : Index := 0#32
  ![0, v96.toNat, 0, 0]
def k0_off4 (i : grid0.Coords) (k0_t1 : Fin k0_t1_loop.trips) (c0_i32_64 : BitVec 32) : Fin 4 → Nat :=
  let c1 : Index := 1#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v112 : BitVec 32 := Scalar.addi v71 c0_i32_64
  let v113 : Index := Scalar.indexCast v112
  let c0_65 : Index := 0#32
  let c0_66 : Index := 0#32
  ![1, v113.toNat, 0, 0]
def k0_off5 (i : grid0.Coords) (k0_t1 : Fin k0_t1_loop.trips) (c0_i32_79 : BitVec 32) : Fin 4 → Nat :=
  let c2 : Index := 2#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v129 : BitVec 32 := Scalar.addi v71 c0_i32_79
  let v130 : Index := Scalar.indexCast v129
  let c0_80 : Index := 0#32
  let c0_81 : Index := 0#32
  ![2, v130.toNat, 0, 0]
def k0_off6 (i : grid0.Coords) (k0_t1 : Fin k0_t1_loop.trips) (c0_i32_94 : BitVec 32) : Fin 4 → Nat :=
  let c3 : Index := 3#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v146 : BitVec 32 := Scalar.addi v71 c0_i32_94
  let v147 : Index := Scalar.indexCast v146
  let c0_95 : Index := 0#32
  let c0_96 : Index := 0#32
  ![3, v147.toNat, 0, 0]
def k0_off7 (k0_t1 : Fin k0_t1_loop.trips) : Fin 3 → Nat :=
  let c0_119 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v198 : Index := Scalar.indexCast v77
  let c128 : Index := 128#32
  ![0, v198.toNat, 128]
def k0_off8 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v210 : Index := Scalar.indexCast v75
  let c128_124 : Index := 128#32
  ![v210.toNat, 128]
def k0_off9 (i : grid0.Coords) (k0_t1 : Fin k0_t1_loop.trips) (c0_i32_127 : BitVec 32) : Fin 4 → Nat :=
  let c4 : Index := 4#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v215 : BitVec 32 := Scalar.addi v71 c0_i32_127
  let v216 : Index := Scalar.indexCast v215
  let c0_128 : Index := 0#32
  let c0_129 : Index := 0#32
  ![4, v216.toNat, 0, 0]
def k0_off10 (i : grid0.Coords) (k0_t1 : Fin k0_t1_loop.trips) (c0_i32_142 : BitVec 32) : Fin 4 → Nat :=
  let c5 : Index := 5#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v232 : BitVec 32 := Scalar.addi v71 c0_i32_142
  let v233 : Index := Scalar.indexCast v232
  let c0_143 : Index := 0#32
  let c0_144 : Index := 0#32
  ![5, v233.toNat, 0, 0]
def k0_off11 (i : grid0.Coords) (k0_t1 : Fin k0_t1_loop.trips) (c0_i32_157 : BitVec 32) : Fin 4 → Nat :=
  let c6 : Index := 6#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v249 : BitVec 32 := Scalar.addi v71 c0_i32_157
  let v250 : Index := Scalar.indexCast v249
  let c0_158 : Index := 0#32
  let c0_159 : Index := 0#32
  ![6, v250.toNat, 0, 0]
def k0_off12 (i : grid0.Coords) (k0_t1 : Fin k0_t1_loop.trips) (c0_i32_172 : BitVec 32) : Fin 4 → Nat :=
  let c7 : Index := 7#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v266 : BitVec 32 := Scalar.addi v71 c0_i32_172
  let v267 : Index := Scalar.indexCast v266
  let c0_173 : Index := 0#32
  let c0_174 : Index := 0#32
  ![7, v267.toNat, 0, 0]
def k0_off13 (k0_t1 : Fin k0_t1_loop.trips) : Fin 3 → Nat :=
  let c0_197 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v318 : Index := Scalar.indexCast v77
  let c256_198 : Index := 256#32
  ![0, v318.toNat, 256]
def k0_off14 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v330 : Index := Scalar.indexCast v75
  let c256_203 : Index := 256#32
  ![v330.toNat, 256]
def k0_off15 (i : grid0.Coords) (k0_t1 : Fin k0_t1_loop.trips) (c0_i32_206 : BitVec 32) : Fin 4 → Nat :=
  let c8 : Index := 8#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v335 : BitVec 32 := Scalar.addi v71 c0_i32_206
  let v336 : Index := Scalar.indexCast v335
  let c0_207 : Index := 0#32
  let c0_208 : Index := 0#32
  ![8, v336.toNat, 0, 0]
def k0_off16 (i : grid0.Coords) (k0_t1 : Fin k0_t1_loop.trips) (c0_i32_221 : BitVec 32) : Fin 4 → Nat :=
  let c9 : Index := 9#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v352 : BitVec 32 := Scalar.addi v71 c0_i32_221
  let v353 : Index := Scalar.indexCast v352
  let c0_222 : Index := 0#32
  let c0_223 : Index := 0#32
  ![9, v353.toNat, 0, 0]
def k0_off17 (i : grid0.Coords) (k0_t1 : Fin k0_t1_loop.trips) (c0_i32_236 : BitVec 32) : Fin 4 → Nat :=
  let c10 : Index := 10#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v369 : BitVec 32 := Scalar.addi v71 c0_i32_236
  let v370 : Index := Scalar.indexCast v369
  let c0_237 : Index := 0#32
  let c0_238 : Index := 0#32
  ![10, v370.toNat, 0, 0]
def k0_off18 (i : grid0.Coords) (k0_t1 : Fin k0_t1_loop.trips) (c0_i32_251 : BitVec 32) : Fin 4 → Nat :=
  let c11 : Index := 11#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v386 : BitVec 32 := Scalar.addi v71 c0_i32_251
  let v387 : Index := Scalar.indexCast v386
  let c0_252 : Index := 0#32
  let c0_253 : Index := 0#32
  ![11, v387.toNat, 0, 0]
def k0_off19 (k0_t1 : Fin k0_t1_loop.trips) : Fin 3 → Nat :=
  let c0_276 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v438 : Index := Scalar.indexCast v77
  let c384 : Index := 384#32
  ![0, v438.toNat, 384]
def k0_off20 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v450 : Index := Scalar.indexCast v75
  let c384_281 : Index := 384#32
  ![v450.toNat, 384]
def k0_off21 (i : grid0.Coords) (k0_t1 : Fin k0_t1_loop.trips) (c0_i32_284 : BitVec 32) : Fin 4 → Nat :=
  let c12 : Index := 12#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v455 : BitVec 32 := Scalar.addi v71 c0_i32_284
  let v456 : Index := Scalar.indexCast v455
  let c0_285 : Index := 0#32
  let c0_286 : Index := 0#32
  ![12, v456.toNat, 0, 0]
def k0_off22 (i : grid0.Coords) (k0_t1 : Fin k0_t1_loop.trips) (c0_i32_299 : BitVec 32) : Fin 4 → Nat :=
  let c13 : Index := 13#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v472 : BitVec 32 := Scalar.addi v71 c0_i32_299
  let v473 : Index := Scalar.indexCast v472
  let c0_300 : Index := 0#32
  let c0_301 : Index := 0#32
  ![13, v473.toNat, 0, 0]
def k0_off23 (i : grid0.Coords) (k0_t1 : Fin k0_t1_loop.trips) (c0_i32_314 : BitVec 32) : Fin 4 → Nat :=
  let c14 : Index := 14#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v489 : BitVec 32 := Scalar.addi v71 c0_i32_314
  let v490 : Index := Scalar.indexCast v489
  let c0_315 : Index := 0#32
  let c0_316 : Index := 0#32
  ![14, v490.toNat, 0, 0]
def k0_off24 (i : grid0.Coords) (k0_t1 : Fin k0_t1_loop.trips) (c0_i32_329 : BitVec 32) : Fin 4 → Nat :=
  let c15 : Index := 15#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v506 : BitVec 32 := Scalar.addi v71 c0_i32_329
  let v507 : Index := Scalar.indexCast v506
  let c0_330 : Index := 0#32
  let c0_331 : Index := 0#32
  ![15, v507.toNat, 0, 0]
def k0_off25 (k0_t1 : Fin k0_t1_loop.trips) : Fin 3 → Nat :=
  let c0_354 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v558 : Index := Scalar.indexCast v77
  let c512 : Index := 512#32
  ![0, v558.toNat, 512]
def k0_off26 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v570 : Index := Scalar.indexCast v75
  let c512_359 : Index := 512#32
  ![v570.toNat, 512]
def k0_off27 (i : grid0.Coords) (k0_t1 : Fin k0_t1_loop.trips) (c0_i32_362 : BitVec 32) : Fin 4 → Nat :=
  let c16 : Index := 16#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v575 : BitVec 32 := Scalar.addi v71 c0_i32_362
  let v576 : Index := Scalar.indexCast v575
  let c0_363 : Index := 0#32
  let c0_364 : Index := 0#32
  ![16, v576.toNat, 0, 0]
def k0_off28 (i : grid0.Coords) (k0_t1 : Fin k0_t1_loop.trips) (c0_i32_377 : BitVec 32) : Fin 4 → Nat :=
  let c17 : Index := 17#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v592 : BitVec 32 := Scalar.addi v71 c0_i32_377
  let v593 : Index := Scalar.indexCast v592
  let c0_378 : Index := 0#32
  let c0_379 : Index := 0#32
  ![17, v593.toNat, 0, 0]
def k0_off29 (i : grid0.Coords) (k0_t1 : Fin k0_t1_loop.trips) (c0_i32_392 : BitVec 32) : Fin 4 → Nat :=
  let c18 : Index := 18#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v609 : BitVec 32 := Scalar.addi v71 c0_i32_392
  let v610 : Index := Scalar.indexCast v609
  let c0_393 : Index := 0#32
  let c0_394 : Index := 0#32
  ![18, v610.toNat, 0, 0]
def k0_off30 (i : grid0.Coords) (k0_t1 : Fin k0_t1_loop.trips) (c0_i32_407 : BitVec 32) : Fin 4 → Nat :=
  let c19 : Index := 19#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v626 : BitVec 32 := Scalar.addi v71 c0_i32_407
  let v627 : Index := Scalar.indexCast v626
  let c0_408 : Index := 0#32
  let c0_409 : Index := 0#32
  ![19, v627.toNat, 0, 0]
def k0_off31 (k0_t1 : Fin k0_t1_loop.trips) : Fin 3 → Nat :=
  let c0_432 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v678 : Index := Scalar.indexCast v77
  let c640 : Index := 640#32
  ![0, v678.toNat, 640]
def k0_off32 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v690 : Index := Scalar.indexCast v75
  let c640_437 : Index := 640#32
  ![v690.toNat, 640]
def k0_off33 (i : grid0.Coords) (k0_t1 : Fin k0_t1_loop.trips) (c0_i32_440 : BitVec 32) : Fin 4 → Nat :=
  let c20 : Index := 20#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v695 : BitVec 32 := Scalar.addi v71 c0_i32_440
  let v696 : Index := Scalar.indexCast v695
  let c0_441 : Index := 0#32
  let c0_442 : Index := 0#32
  ![20, v696.toNat, 0, 0]
def k0_off34 (i : grid0.Coords) (k0_t1 : Fin k0_t1_loop.trips) (c0_i32_455 : BitVec 32) : Fin 4 → Nat :=
  let c21 : Index := 21#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v712 : BitVec 32 := Scalar.addi v71 c0_i32_455
  let v713 : Index := Scalar.indexCast v712
  let c0_456 : Index := 0#32
  let c0_457 : Index := 0#32
  ![21, v713.toNat, 0, 0]
def k0_off35 (i : grid0.Coords) (k0_t1 : Fin k0_t1_loop.trips) (c0_i32_470 : BitVec 32) : Fin 4 → Nat :=
  let c22 : Index := 22#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v729 : BitVec 32 := Scalar.addi v71 c0_i32_470
  let v730 : Index := Scalar.indexCast v729
  let c0_471 : Index := 0#32
  let c0_472 : Index := 0#32
  ![22, v730.toNat, 0, 0]
def k0_off36 (i : grid0.Coords) (k0_t1 : Fin k0_t1_loop.trips) (c0_i32_485 : BitVec 32) : Fin 4 → Nat :=
  let c23 : Index := 23#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v746 : BitVec 32 := Scalar.addi v71 c0_i32_485
  let v747 : Index := Scalar.indexCast v746
  let c0_486 : Index := 0#32
  let c0_487 : Index := 0#32
  ![23, v747.toNat, 0, 0]
def k0_off37 (k0_t1 : Fin k0_t1_loop.trips) : Fin 3 → Nat :=
  let c0_510 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v798 : Index := Scalar.indexCast v77
  let c768 : Index := 768#32
  ![0, v798.toNat, 768]
def k0_off38 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v810 : Index := Scalar.indexCast v75
  let c768_515 : Index := 768#32
  ![v810.toNat, 768]
def k0_off39 (i : grid0.Coords) (k0_t1 : Fin k0_t1_loop.trips) (c0_i32_518 : BitVec 32) : Fin 4 → Nat :=
  let c24 : Index := 24#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v815 : BitVec 32 := Scalar.addi v71 c0_i32_518
  let v816 : Index := Scalar.indexCast v815
  let c0_519 : Index := 0#32
  let c0_520 : Index := 0#32
  ![24, v816.toNat, 0, 0]
def k0_off40 (i : grid0.Coords) (k0_t1 : Fin k0_t1_loop.trips) (c0_i32_533 : BitVec 32) : Fin 4 → Nat :=
  let c25 : Index := 25#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v832 : BitVec 32 := Scalar.addi v71 c0_i32_533
  let v833 : Index := Scalar.indexCast v832
  let c0_534 : Index := 0#32
  let c0_535 : Index := 0#32
  ![25, v833.toNat, 0, 0]
def k0_off41 (i : grid0.Coords) (k0_t1 : Fin k0_t1_loop.trips) (c0_i32_548 : BitVec 32) : Fin 4 → Nat :=
  let c26 : Index := 26#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v849 : BitVec 32 := Scalar.addi v71 c0_i32_548
  let v850 : Index := Scalar.indexCast v849
  let c0_549 : Index := 0#32
  let c0_550 : Index := 0#32
  ![26, v850.toNat, 0, 0]
def k0_off42 (i : grid0.Coords) (k0_t1 : Fin k0_t1_loop.trips) (c0_i32_563 : BitVec 32) : Fin 4 → Nat :=
  let c27 : Index := 27#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v866 : BitVec 32 := Scalar.addi v71 c0_i32_563
  let v867 : Index := Scalar.indexCast v866
  let c0_564 : Index := 0#32
  let c0_565 : Index := 0#32
  ![27, v867.toNat, 0, 0]
def k0_off43 (k0_t1 : Fin k0_t1_loop.trips) : Fin 3 → Nat :=
  let c0_588 : Index := 0#32
  let c0_i32_33 : BitVec 32 := 0#32
  let c1_i32_35 : BitVec 32 := 1#32
  let arg13 : BitVec 32 := Scf.iv c0_i32_33 c1_i32_35 k0_t1
  let c64_i32_40 : BitVec 32 := 64#32
  let v76 : BitVec 32 := Scalar.muli arg13 c64_i32_40
  let v77 : BitVec 32 := v76
  let v918 : Index := Scalar.indexCast v77
  let c896 : Index := 896#32
  ![0, v918.toNat, 896]
def k0_off44 (i : grid0.Coords) (k0_t1 : Fin k0_t1_loop.trips) : Fin 2 → Nat :=
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v72 : BitVec 32 := Scalar.subi v68 v30
  let c4_i32_39 : BitVec 32 := 4#32
  let v73 : BitVec 32 := Scalar.addi v72 c4_i32_39
  let c64_i32 : BitVec 32 := 64#32
  let v74 : BitVec 32 := Scalar.muli v73 c64_i32
  let v75 : BitVec 32 := v74
  let v930 : Index := Scalar.indexCast v75
  let c896_593 : Index := 896#32
  ![v930.toNat, 896]
def k0_off45 (i : grid0.Coords) (k0_t1 : Fin k0_t1_loop.trips) (c0_i32_596 : BitVec 32) : Fin 4 → Nat :=
  let c28 : Index := 28#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v935 : BitVec 32 := Scalar.addi v71 c0_i32_596
  let v936 : Index := Scalar.indexCast v935
  let c0_597 : Index := 0#32
  let c0_598 : Index := 0#32
  ![28, v936.toNat, 0, 0]
def k0_off46 (i : grid0.Coords) (k0_t1 : Fin k0_t1_loop.trips) (c0_i32_611 : BitVec 32) : Fin 4 → Nat :=
  let c29 : Index := 29#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v952 : BitVec 32 := Scalar.addi v71 c0_i32_611
  let v953 : Index := Scalar.indexCast v952
  let c0_612 : Index := 0#32
  let c0_613 : Index := 0#32
  ![29, v953.toNat, 0, 0]
def k0_off47 (i : grid0.Coords) (k0_t1 : Fin k0_t1_loop.trips) (c0_i32_626 : BitVec 32) : Fin 4 → Nat :=
  let c30 : Index := 30#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v969 : BitVec 32 := Scalar.addi v71 c0_i32_626
  let v970 : Index := Scalar.indexCast v969
  let c0_627 : Index := 0#32
  let c0_628 : Index := 0#32
  ![30, v970.toNat, 0, 0]
def k0_off48 (i : grid0.Coords) (k0_t1 : Fin k0_t1_loop.trips) (c0_i32_641 : BitVec 32) : Fin 4 → Nat :=
  let c31 : Index := 31#32
  let c56_i32 : BitVec 32 := 56#32
  let c0_i32_37 : BitVec 32 := 0#32
  let arg1 : BitVec 32 := BitVec.ofNat 32 (i 1).val
  let c16_i32 : BitVec 32 := 16#32
  let v30 : BitVec 32 := Scalar.muli arg1 c16_i32
  let c0_i32_33 : BitVec 32 := 0#32
  let c1_i32_35 : BitVec 32 := 1#32
  let arg13 : BitVec 32 := Scf.iv c0_i32_33 c1_i32_35 k0_t1
  let v65 : BitVec 32 := Scalar.addi v30 arg13
  let c4_i32 : BitVec 32 := 4#32
  let v66 : BitVec 32 := Scalar.subi v65 c4_i32
  let v67 : BitVec 32 := Scalar.maxsi c0_i32_37 v66
  let v68 : BitVec 32 := Scalar.minsi c56_i32 v67
  let v69 : BitVec 32 := Scalar.subi v68 v65
  let c8_i32 : BitVec 32 := 8#32
  let v70 : BitVec 32 := Scalar.addi v69 c8_i32
  let c1_i32_38 : BitVec 32 := 1#32
  let v71 : BitVec 32 := Scalar.subi v70 c1_i32_38
  let v986 : BitVec 32 := Scalar.addi v71 c0_i32_641
  let v987 : Index := Scalar.indexCast v986
  let c0_642 : Index := 0#32
  let c0_643 : Index := 0#32
  ![31, v987.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x14x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x1024 : Shape := ⟨3, ![4, 4096, 1024]⟩
abbrev S32x15x31 : Shape := ⟨3, ![32, 15, 31]⟩
abbrev S4x64x64x32x32 : Shape := ⟨5, ![4, 64, 64, 32, 32]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x64x8x64x32x32 : Shape := ⟨6, ![4, 64, 8, 64, 32, 32]⟩
abbrev S64x8x1x1 : Shape := ⟨4, ![64, 8, 1, 1]⟩
abbrev S1x1x64x64 : Shape := ⟨4, ![1, 1, 64, 64]⟩
abbrev S64x8x64x64 : Shape := ⟨4, ![64, 8, 64, 64]⟩
abbrev S64x8x64x64x1 : Shape := ⟨5, ![64, 8, 64, 64, 1]⟩
abbrev S64x8x64x64x2 : Shape := ⟨5, ![64, 8, 64, 64, 2]⟩
abbrev S32x64x8x64x64 : Shape := ⟨5, ![32, 64, 8, 64, 64]⟩
abbrev S4x32x64x64x8x64 : Shape := ⟨6, ![4, 32, 64, 64, 8, 64]⟩
abbrev S32x64x64x8x64 : Shape := ⟨5, ![32, 64, 64, 8, 64]⟩
abbrev S1x32x64x64x8x64 : Shape := ⟨6, ![1, 32, 64, 64, 8, 64]⟩
abbrev S64x1x64 : Shape := ⟨3, ![64, 1, 64]⟩
abbrev S4x32x64x64x512 : Shape := ⟨5, ![4, 32, 64, 64, 512]⟩
abbrev S4x32x64x64 : Shape := ⟨4, ![4, 32, 64, 64]⟩
abbrev S4x32x64x64x1 : Shape := ⟨5, ![4, 32, 64, 64, 1]⟩
abbrev S4x64x512x32x32 : Shape := ⟨5, ![4, 64, 512, 32, 32]⟩
abbrev S4x64x32x32x64 : Shape := ⟨5, ![4, 64, 32, 32, 64]⟩

abbrev nBuf : Space → Nat
  | .hbm => 151
  | .vmem => 0
  | .smem => 0
  | _ => 0

abbrev hbmTy0_0 (i : Nat) : BufTy := match i % 128 with
  | 0 => ⟨S4x4096x1024, .bf16⟩
  | 1 => ⟨S4x4096x1024, .bf16⟩
  | 2 => ⟨S4x4096x1024, .bf16⟩
  | 3 => ⟨S32x15x31, .f32⟩
  | 4 => ⟨S4x4096x1024, .f32⟩
  | 5 => ⟨S4x64x64x32x32, .f32⟩
  | 6 => ⟨S4x4096x1024, .f32⟩
  | 7 => ⟨S4x64x64x32x32, .f32⟩
  | 8 => ⟨S4x4096x1024, .f32⟩
  | 9 => ⟨S4x64x64x32x32, .f32⟩
  | 10 => ⟨S64, .i32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S1x64, .i32⟩
  | 24 => ⟨S64x1, .i32⟩
  | 25 => ⟨S64x64, .i32⟩
  | 26 => ⟨S64x64, .i32⟩
  | 27 => ⟨S64x64, .i1⟩
  | 28 => ⟨S1x64, .i32⟩
  | 29 => ⟨S64x1, .i32⟩
  | 30 => ⟨S_, .i32⟩
  | 31 => ⟨S64x1, .i32⟩
  | 32 => ⟨S64x1, .i32⟩
  | 33 => ⟨S64x64, .i32⟩
  | 34 => ⟨S64x64, .i32⟩
  | 35 => ⟨S64x64, .i1⟩
  | 36 => ⟨S64x64, .i1⟩
  | 37 => ⟨S1x64, .i32⟩
  | 38 => ⟨S64x1, .i32⟩
  | 39 => ⟨S64x64, .i32⟩
  | 40 => ⟨S64x64, .i32⟩
  | 41 => ⟨S64x64, .i32⟩
  | 42 => ⟨S_, .i32⟩
  | 43 => ⟨S_, .i32⟩
  | 44 => ⟨S_, .i32⟩
  | 45 => ⟨S64x64, .i32⟩
  | 46 => ⟨S64x64, .i32⟩
  | 47 => ⟨S_, .i32⟩
  | 48 => ⟨S64x64, .i32⟩
  | 49 => ⟨S64x64, .i32⟩
  | 50 => ⟨S_, .i32⟩
  | 51 => ⟨S64x64, .i32⟩
  | 52 => ⟨S64x64, .i32⟩
  | 53 => ⟨S64, .i32⟩
  | 54 => ⟨S_, .i32⟩
  | 55 => ⟨S64, .i32⟩
  | 56 => ⟨S64, .i32⟩
  | 57 => ⟨S_, .i32⟩
  | 58 => ⟨S_, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S64x1, .i32⟩
  | 66 => ⟨S8, .i32⟩
  | 67 => ⟨S1x8, .i32⟩
  | 68 => ⟨S64x8, .i32⟩
  | 69 => ⟨S64x8, .i32⟩
  | 70 => ⟨S64x8, .i32⟩
  | 71 => ⟨S64x1, .i32⟩
  | 72 => ⟨S64x8, .i32⟩
  | 73 => ⟨S64x8, .i32⟩
  | 74 => ⟨S_, .i32⟩
  | 75 => ⟨S64x8, .i32⟩
  | 76 => ⟨S64x8, .i32⟩
  | 77 => ⟨S_, .i32⟩
  | 78 => ⟨S64x8, .i32⟩
  | 79 => ⟨S64x8, .i1⟩
  | 80 => ⟨S_, .i32⟩
  | 81 => ⟨S64x8, .i32⟩
  | 82 => ⟨S64x8, .i32⟩
  | 83 => ⟨S64x8, .i32⟩
  | 84 => ⟨S64x8x1, .i32⟩
  | 85 => ⟨S4x64x8x64x32x32, .f32⟩
  | 86 => ⟨S_, .i32⟩
  | 87 => ⟨S64x8, .i32⟩
  | 88 => ⟨S64x8, .i1⟩
  | 89 => ⟨S_, .i32⟩
  | 90 => ⟨S64x8, .i32⟩
  | 91 => ⟨S64x8, .i32⟩
  | 92 => ⟨S64x8, .i32⟩
  | 93 => ⟨S64x8x1, .i32⟩
  | 94 => ⟨S4x64x8x64x32x32, .f32⟩
  | 95 => ⟨S64x8x1x1, .i32⟩
  | 96 => ⟨S1x1x64x64, .i32⟩
  | 97 => ⟨S_, .i32⟩
  | 98 => ⟨S64x8x1x1, .i32⟩
  | 99 => ⟨S64x8x1x1, .i1⟩
  | 100 => ⟨S_, .i32⟩
  | 101 => ⟨S64x8x1x1, .i32⟩
  | 102 => ⟨S64x8x1x1, .i32⟩
  | 103 => ⟨S64x8x1x1, .i32⟩
  | 104 => ⟨S_, .i32⟩
  | 105 => ⟨S1x1x64x64, .i32⟩
  | 106 => ⟨S1x1x64x64, .i1⟩
  | 107 => ⟨S_, .i32⟩
  | 108 => ⟨S1x1x64x64, .i32⟩
  | 109 => ⟨S1x1x64x64, .i32⟩
  | 110 => ⟨S1x1x64x64, .i32⟩
  | 111 => ⟨S64x8x64x64, .i32⟩
  | 112 => ⟨S64x8x64x64, .i32⟩
  | 113 => ⟨S64x8x64x64x1, .i32⟩
  | 114 => ⟨S64x8x64x64x1, .i32⟩
  | 115 => ⟨S64x8x64x64x2, .i32⟩
  | 116 => ⟨S32x64x8x64x64, .f32⟩
  | 117 => ⟨S4x32x64x64x8x64, .f32⟩
  | 118 => ⟨S_, .f32⟩
  | 119 => ⟨S4x32x64x64x8x64, .f32⟩
  | 120 => ⟨S4x32x64x64x8x64, .f32⟩
  | 121 => ⟨S32x64x64x8x64, .f32⟩
  | 122 => ⟨S1x32x64x64x8x64, .f32⟩
  | 123 => ⟨S4x32x64x64x8x64, .f32⟩
  | 124 => ⟨S4x32x64x64x8x64, .f32⟩
  | 125 => ⟨S64x1x64, .i1⟩
  | 126 => ⟨S_, .f32⟩
  | 127 => ⟨S_, .f32⟩
  | _ => ⟨S4x4096x1024, .bf16⟩

abbrev hbmTy0_1 (i : Nat) : BufTy := match i % 128 with
  | 0 => ⟨S4x32x64x64x8x64, .i1⟩
  | 1 => ⟨S4x32x64x64x8x64, .f32⟩
  | 2 => ⟨S4x32x64x64x8x64, .f32⟩
  | 3 => ⟨S4x32x64x64x512, .f32⟩
  | 4 => ⟨S_, .f32⟩
  | 5 => ⟨S4x32x64x64, .f32⟩
  | 6 => ⟨S_, .f32⟩
  | 7 => ⟨S4x32x64x64, .f32⟩
  | 8 => ⟨S4x32x64x64, .f32⟩
  | 9 => ⟨S4x32x64x64x1, .f32⟩
  | 10 => ⟨S4x32x64x64x512, .f32⟩
  | 11 => ⟨S4x32x64x64x512, .f32⟩
  | 12 => ⟨S4x32x64x64x512, .f32⟩
  | 13 => ⟨S_, .f32⟩
  | 14 => ⟨S4x32x64x64, .f32⟩
  | 15 => ⟨S4x32x64x64x1, .f32⟩
  | 16 => ⟨S4x32x64x64x512, .f32⟩
  | 17 => ⟨S4x32x64x64x512, .f32⟩
  | 18 => ⟨S4x64x512x32x32, .f32⟩
  | 19 => ⟨S4x64x32x32x64, .f32⟩
  | 20 => ⟨S4x64x64x32x32, .f32⟩
  | 21 => ⟨S4x4096x1024, .f32⟩
  | 22 => ⟨S4x4096x1024, .bf16⟩
  | _ => ⟨S4x4096x1024, .bf16⟩

abbrev hbmTy (i : Nat) : BufTy := match i / 128 with
  | 0 => hbmTy0_0 i
  | 1 => hbmTy0_1 i
  | _ => ⟨S4x4096x1024, .bf16⟩

abbrev bufTy : (tb : Table) → Fin (tcTables nBuf tb) → BufTy
  | .hbm, ⟨i, _⟩ => hbmTy i
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_c_8 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_cst_20 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S512x1024 : Shape := ⟨2, ![512, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2x1408, .f32⟩
  | .hbm, ⟨9, _⟩ => ⟨S2x1024x1408, .f32⟩
  | .hbm, ⟨10, _⟩ => ⟨S2x1024x1408, .bf16⟩
  | .hbm, ⟨11, _⟩ => ⟨S1024x2816, .f32⟩
  | .hbm, ⟨12, _⟩ => ⟨S1024x2x1408, .f32⟩
  | .hbm, ⟨13, _⟩ => ⟨S2x1024x1408, .f32⟩
  | .hbm, ⟨14, _⟩ => ⟨S2x1024x1408, .bf16⟩
  | .hbm, ⟨15, _⟩ => ⟨S2x1408x1024, .f32⟩
  | .hbm, ⟨16, _⟩ => ⟨S2x1408x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2x1024x1408, .bf16⟩
  | .local _ .vmem, ⟨5, _⟩ => ⟨S2x1024x1408, .bf16⟩
  | .local _ .vmem, ⟨6, _⟩ => ⟨S2x1408x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S512x1024 : Shape := ⟨2, ![512, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2x1408, .f32⟩
  | .hbm, ⟨9, _⟩ => ⟨S2x1024x1408, .f32⟩
  | .hbm, ⟨10, _⟩ => ⟨S2x1024x1408, .bf16⟩
  | .hbm, ⟨11, _⟩ => ⟨S1024x2816, .f32⟩
  | .hbm, ⟨12, _⟩ => ⟨S1024x2x1408, .f32⟩
  | .hbm, ⟨13, _⟩ => ⟨S2x1024x1408, .f32⟩
  | .hbm, ⟨14, _⟩ => ⟨S2x1024x1408, .bf16⟩
  | .hbm, ⟨15, _⟩ => ⟨S2x1408x1024, .f32⟩
  | .hbm, ⟨16, _⟩ => ⟨S2x1408x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2x1024x1408, .bf16⟩
  | .local _ .vmem, ⟨5, _⟩ => ⟨S2x1024x1408, .bf16⟩
  | .local _ .vmem, ⟨6, _⟩ => ⟨S2x1408x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Mix.lean ====
abbrev S4x4096x1024 : Shape := ⟨3, ![4, 4096, 1024]⟩
abbrev S1024 : Shape := ⟨1, ![1024]⟩
abbrev S1024x8192 : Shape := ⟨2, ![1024, 8192]⟩
abbrev S2048 : Shape := ⟨1, ![2048]⟩
abbrev S3x1024 : Shape := ⟨2, ![3, 1024]⟩
abbrev S1024x1024 : Shape := ⟨2, ![1024, 1024]⟩
abbrev S1x1024 : Shape := ⟨2, ![1, 1024]⟩
abbrev S1024x3072 : Shape := ⟨2, ![1024, 3072]⟩
abbrev S1024x2048 : Shape := ⟨2, ![1024, 2048]⟩
abbrev S1x2048 : Shape := ⟨2, ![1, 2048]⟩
abbrev S1x512x1024 : Shape := ⟨3, ![1, 512, 1024]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S16x2048 : Shape := ⟨2, ![16, 2048]⟩
abbrev S512x2048 : Shape := ⟨2, ![512, 2048]⟩

abbrev nBuf : Space → Nat
  | .hbm => 21
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S2048, .f32⟩
  | .hbm, ⟨6, _⟩ => ⟨S3x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1024x3072, .f32⟩
  | .hbm, ⟨13, _⟩ => ⟨S1024x3072, .bf16⟩
  | .hbm, ⟨14, _⟩ => ⟨S1024x2048, .f32⟩
  | .hbm, ⟨15, _⟩ => ⟨S1024x2048, .bf16⟩
  | .hbm, ⟨16, _⟩ => ⟨S1x2048, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x1024, .f32⟩
  | .local _ .vmem, ⟨10, _⟩ => ⟨S1024x3072, .bf16⟩
  | .local _ .vmem, ⟨11, _⟩ => ⟨S1024x2048, .bf16⟩
  | .local _ .vmem, ⟨12, _⟩ => ⟨S1x2048, .f32⟩
  | .local _ .vmem, ⟨13, _⟩ => ⟨S3x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefMixIdeal.lean ====
abbrev S4x4096x1024 : Shape := ⟨3, ![4, 4096, 1024]⟩
abbrev S1024 : Shape := ⟨1, ![1024]⟩
abbrev S1024x8192 : Shape := ⟨2, ![1024, 8192]⟩
abbrev S2048 : Shape := ⟨1, ![2048]⟩
abbrev S3x1024 : Shape := ⟨2, ![3, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8192 : Shape := ⟨3, ![4, 4096, 8192]⟩
abbrev S4x4096x2048 : Shape := ⟨3, ![4, 4096, 2048]⟩
abbrev S4x4098x1024 : Shape := ⟨3, ![4, 4098, 1024]⟩
abbrev S1x1024 : Shape := ⟨2, ![1, 1024]⟩
abbrev S1x1x2048 : Shape := ⟨3, ![1, 1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S2048, .f32⟩
  | .hbm, ⟨6, _⟩ => ⟨S3x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x8192, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x2048, .f32⟩
  | .hbm, ⟨34, _⟩ => ⟨S4x4096x1024, .f32⟩
  | .hbm, ⟨35, _⟩ => ⟨S_, .i32⟩
  | .hbm, ⟨36, _⟩ => ⟨S_, .f32⟩
  | .hbm, ⟨37, _⟩ => ⟨S4x4098x1024, .f32⟩
  | .hbm, ⟨38, _⟩ => ⟨S4x4096x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S1x1024, .f32⟩
  | .hbm, ⟨53, _⟩ => ⟨S1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x4096x2048, .f32⟩
  | .hbm, ⟨69, _⟩ => ⟨S4x4096x2048, .f32⟩
  | .hbm, ⟨70, _⟩ => ⟨S_, .f32⟩
  | .hbm, ⟨71, _⟩ => ⟨S4x4096x2048, .f32⟩
  | .hbm, ⟨72, _⟩ => ⟨S4x4096x2048, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_4 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S1024x8192 : Shape := ⟨2, ![1024, 8192]⟩
abbrev S1x1024 : Shape := ⟨2, ![1, 1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S1x1024, .f32⟩
  | .hbm, ⟨4, _⟩ => ⟨S1024x3072, .f32⟩
  | .hbm, ⟨5, _⟩ => ⟨S1024x3072, .bf16⟩
  | .hbm, ⟨6, _⟩ => ⟨S16384x1024, .bf16⟩
  | .hbm, ⟨7, _⟩ => ⟨S16384x1024, .bf16⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefQkvIdeal.lean ====
abbrev S16384x1024 : Shape := ⟨2, ![16384, 1024]⟩
abbrev S1024 : Shape := ⟨1, ![1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8192 : Shape := ⟨2, ![16384, 8192]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8192, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2048, .f32⟩
  | .hbm, ⟨27, _⟩ => ⟨S16384x1024, .bf16⟩
  | .hbm, ⟨28, _⟩ => ⟨S16384x1024, .bf16⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== FfnSample.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S512x1024 : Shape := ⟨2, ![512, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 18
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2x1408, .f32⟩
  | .hbm, ⟨9, _⟩ => ⟨S2x1024x1408, .f32⟩
  | .hbm, ⟨10, _⟩ => ⟨S2x1024x1408, .bf16⟩
  | .hbm, ⟨11, _⟩ => ⟨S1024x2816, .f32⟩
  | .hbm, ⟨12, _⟩ => ⟨S1024x2x1408, .f32⟩
  | .hbm, ⟨13, _⟩ => ⟨S2x1024x1408, .f32⟩
  | .hbm, ⟨14, _⟩ => ⟨S2x1024x1408, .bf16⟩
  | .hbm, ⟨15, _⟩ => ⟨S2x1408x1024, .f32⟩
  | .hbm, ⟨16, _⟩ => ⟨S2x1408x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2x1024x1408, .bf16⟩
  | .local _ .vmem, ⟨5, _⟩ => ⟨S2x1024x1408, .bf16⟩
  | .local _ .vmem, ⟨6, _⟩ => ⟨S2x1408x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFfnSampleIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.FfnModel.lean ====
module

public import proofs.«01_k».proof.Proof.Gen.FfnIdeal.Value
public import proofs.«01_k».proof.Proof.Gen.RefFfnIdeal.Read
public import Idealize.ShloMosaic.Lib.Pointwise
public import Idealize.ShloMosaic.Lib.Pipeline.ValueKit

/-! The feed-forward half-step on one row of the residual stream, as plain mathematics, and the two readings of it:
    the kernel's block, whose hidden layer is taken in two chunks of 1408, and the reference's, which takes all 2816 at
    once. -/

@[expose] public section
set_option maxRecDepth 16384
noncomputable section
open Idealize Idealize.ShloMosaic
open scoped BigOperators
namespace Cert.FfnIdeal.Proved
open Cert.FfnIdeal Cert.FfnIdeal.Gen

/-- A row divided by its root mean square (1024 entries, 1e-6 added under the root) and scaled by the gains. -/
def rmsRow (x g : Fin 1024 → EReal) (j : Fin 1024) : EReal :=
  x j * Ideal.rsqrt (Ideal.div (∑ k, x k * x k) (Ideal.ofBits FTy.f32 0x44800000#32) + Ideal.ofBits FTy.f32 0x358637BD#32) * g j

/-- A hidden unit: the gate's product through SiLU, times the other half's product. -/
def unit (n wg wu : Fin 1024 → EReal) : EReal :=
  (∑ k, n k * wg k) * Ideal.logistic (∑ k, n k * wg k) * ∑ k, n k * wu k

/-- The row after the half-step, from the row and the product of the second linear map. -/
def stepRow (x y g : Fin 1024 → EReal) (j : Fin 1024) : EReal :=
  x j + Ideal.ofBits FTy.f32 0x3F000000#32 * rmsRow y g j

/-- The product of the second linear map, all 2816 hidden units at once. -/
def mixRow (n : Fin 1024 → EReal) (w : Fin 1024 → Fin 5632 → EReal) (o : Fin 2816 → Fin 1024 → EReal) (j : Fin 1024) : EReal :=
  ∑ f : Fin 2816, unit n (fun k => w k ⟨f, by omega⟩) (fun k => w k ⟨2816 + f, by omega⟩) * o f j

/-- A sum over the 2816 hidden units is the sum over the first 1408 plus the sum over the other 1408. -/
theorem sum_chunks (f : Fin 2816 → EReal) :
    (∑ k, f k) = (∑ k : Fin 1408, f ⟨k, by omega⟩) + ∑ k : Fin 1408, f ⟨1408 + k, by omega⟩ :=
  Fin.sum_univ_add (a := 1408) (b := 1408) f

/-- The normalized rows the kernel stores. -/
theorem pay2_apply (x : Vec Ideal S512x1024 .f32) (g : Vec Ideal S1x1024 .f32) (r : Fin 512) (l : Fin 1024) :
    k0_pay2 (F := Ideal) x g (ix2 r l) = rmsRow (fun k => x (ix2 r k)) (fun k => g (ix2 0 k)) l := by
  pointwise [k0_pay2, rmsRow]

/-- The gate's product of the second chunk. -/
theorem pay4_apply (x : Vec Ideal S512x1024 .f32) (g : Vec Ideal S1x1024 .f32) (w : Vec Ideal S1x1024x1408 .bf16) (r : Fin 512) (l : Fin 1408) :
    k0_pay4 (F := Ideal) x g w (ix2 r l) = ∑ k : Fin 1024, k0_pay2 (F := Ideal) x g (ix2 r k) * w (ix3 0 k l) := by
  pointwise [k0_pay4]

/-- The first chunk's contribution to the second linear map. -/
theorem pay3_apply (x : Vec Ideal S512x1024 .f32) (g : Vec Ideal S1x1024 .f32) (w u : Vec Ideal S1x1024x1408 .bf16) (o : Vec Ideal S1x1408x1024 .bf16) (r : Fin 512) (l : Fin 1024) :
    k0_pay3 (F := Ideal) x g w u o (ix2 r l)
      = ∑ f : Fin 1408, unit (fun k => k0_pay2 (F := Ideal) x g (ix2 r k)) (fun k => w (ix3 0 k f)) (fun k => u (ix3 0 k f)) * o (ix3 0 f l) := by
  pointwise [k0_pay3, unit]

/-- The block the kernel writes, from the first chunk's contribution `a` and the second chunk's gate product `s`. -/
theorem pay1_apply (x : Vec Ideal S512x1024 .f32) (n : FVec Ideal S512x1024 .bf16) (a : FVec Ideal S512x1024 .f32) (s : FVec Ideal S512x1408 .f32) (u : Vec Ideal S1x1024x1408 .bf16) (o : Vec Ideal S1x1408x1024 .bf16) (g : Vec Ideal S1x1024 .f32) (r : Fin 512) (l : Fin 1024) :
    k0_pay1 (F := Ideal) x n a s u o g (ix2 r l)
      = stepRow (fun k => x (ix2 r k)) (fun k => a (ix2 r k) + ∑ f : Fin 1408, (s (ix2 r f) * Ideal.logistic (s (ix2 r f)) * ∑ k, n (ix2 r k) * u (ix3 0 k f)) * o (ix3 0 f k)) (fun k => g (ix2 0 k)) l := by
  pointwise [k0_pay1, stepRow, rmsRow]

/-- The whole block the kernel writes is the half-step on each of its rows. -/
theorem block_apply (x : Vec Ideal S512x1024 .f32) (g h : Vec Ideal S1x1024 .f32) (w0 u0 w1 u1 : Vec Ideal S1x1024x1408 .bf16)
    (o0 o1 : Vec Ideal S1x1408x1024 .bf16) (r : Fin 512) (l : Fin 1024)
    (W : Fin 1024 → Fin 5632 → EReal) (O : Fin 2816 → Fin 1024 → EReal)
    (hw0 : ∀ k f, w0 (ix3 0 k f) = W k ⟨f, by omega⟩) (hu0 : ∀ k f, u0 (ix3 0 k f) = W k ⟨2816 + f, by omega⟩)
    (hw1 : ∀ k f, w1 (ix3 0 k f) = W k ⟨1408 + f, by omega⟩) (hu1 : ∀ k f, u1 (ix3 0 k f) = W k ⟨2816 + (1408 + f), by omega⟩)
    (ho0 : ∀ f k, o0 (ix3 0 f k) = O ⟨f, by omega⟩ k) (ho1 : ∀ f k, o1 (ix3 0 f k) = O ⟨1408 + f, by omega⟩ k) :
    k0_pay1 (F := Ideal) x (k0_pay2 x g) (k0_pay3 x g w0 u0 o0) (k0_pay4 x g w1) u1 o1 h (ix2 r l)
      = stepRow (fun k => x (ix2 r k)) (mixRow (rmsRow (fun k => x (ix2 r k)) (fun k => g (ix2 0 k))) W O) (fun k => h (ix2 0 k)) l := by
  rw [pay1_apply]
  refine congrArg (fun y => stepRow _ y _ l) (funext fun j => ?_)
  simp only [pay3_apply, pay4_apply, pay2_apply, hw0, hu0, hw1, hu1, ho0, ho1]
  rw [mixRow, sum_chunks]
  rfl

/-- What is stored at row `r` of a block, from the six blocks a grid point is given. -/
theorem stored_apply (b0 : Vec Ideal S512x1024 .f32) (b1 b2 : Vec Ideal S1x1024 .f32) (b3 b4 : Vec Ideal S2x1024x1408 .bf16) (b5 : Vec Ideal S2x1408x1024 .bf16)
    (r : Fin 512) (l : Fin 1024) (x g h : Fin 1024 → EReal) (W : Fin 1024 → Fin 5632 → EReal) (O : Fin 2816 → Fin 1024 → EReal)
    (h0 : ∀ k, b0 (ix2 r k) = x k) (h1 : ∀ k, b1 (ix2 0 k) = g k) (h2 : ∀ k, b2 (ix2 0 k) = h k)
    (h3 : ∀ (a : Fin 2) (k : Fin 1024) (f : Fin 1408), b3 (ix3 a k f) = W k ⟨a.val * 1408 + f.val, by omega⟩)
    (h4 : ∀ (a : Fin 2) (k : Fin 1024) (f : Fin 1408), b4 (ix3 a k f) = W k ⟨2816 + (a.val * 1408 + f.val), by omega⟩)
    (h5 : ∀ (a : Fin 2) (f : Fin 1408) (k : Fin 1024), b5 (ix3 a f k) = O ⟨a.val * 1408 + f.val, by omega⟩ k) :
    k0_pay1 (F := Ideal) b0 (k0_pay2 b0 b1) (k0_pay3 b0 b1 (View.ld b3 r0_2) (View.ld b4 r0_2) (View.ld b5 r0_3))
      (k0_pay4 b0 b1 (View.ld b3 r0_4)) (View.ld b4 r0_4) (View.ld b5 r0_5) b2 (ix2 r l)
      = stepRow x (mixRow (rmsRow x g) W O) h l := by
  rw [block_apply (W := W) (O := O)]
  · simp only [h0, h1, h2]
  · intro k f
    refine (View.ld_unit_apply_of _ _ _ _ _ (ix3 0 k f) ?_).trans ((h3 0 k f).trans (congrArg (W k) (Fin.ext ?_)))
    · intro a; fin_cases a <;> simp
    · simp
  · intro k f
    refine (View.ld_unit_apply_of _ _ _ _ _ (ix3 0 k f) ?_).trans ((h4 0 k f).trans (congrArg (W k) (Fin.ext ?_)))
    · intro a; fin_cases a <;> simp
    · simp
  · intro k f
    refine (View.ld_unit_apply_of _ _ _ _ _ (ix3 1 k f) ?_).trans ((h3 1 k f).trans (congrArg (W k) (Fin.ext ?_)))
    · intro a; fin_cases a <;> simp
    · simp
  · intro k f
    refine (View.ld_unit_apply_of _ _ _ _ _ (ix3 1 k f) ?_).trans ((h4 1 k f).trans (congrArg (W k) (Fin.ext ?_)))
    · intro a; fin_cases a <;> simp
    · simp
  · intro f k
    refine (View.ld_unit_apply_of _ _ _ _ _ (ix3 0 f k) ?_).trans ((h5 0 f k).trans (congrArg (fun f => O f k) (Fin.ext ?_)))
    · intro a; fin_cases a <;> simp
    · simp
  · intro f k
    refine (View.ld_unit_apply_of _ _ _ _ _ (ix3 1 f k) ?_).trans ((h5 1 f k).trans (congrArg (fun f => O f k) (Fin.ext ?_)))
    · intro a; fin_cases a <;> simp
    · simp

open Cert.RefFfnIdeal.Read in
/-- The reference's normalized rows. -/
theorem ref12_apply (x0 x1) (i : Fin 16384) (l : Fin 1024) :
    val_main_v12 (F := Ideal) x0 x1 (ix2 i l) = rmsRow (fun k => x0 (ix2 i k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

open Cert.RefFfnIdeal.Read in
/-- The reference's hidden units. -/
theorem ref17_apply (x0 x1 x3) (i : Fin 16384) (f : Fin 2816) :
    val_main_v17 (F := Ideal) x0 x1 x3 (ix2 i f)
      = unit (fun k => val_main_v12 (F := Ideal) x0 x1 (ix2 i k)) (fun k => x3 (ix2 k ⟨f, by omega⟩)) (fun k => x3 (ix2 k ⟨2816 + f, by omega⟩)) := by
  pointwise [val_main_v17, val_main_v16, val_main_v15, val_main_v14, val_main_v13, val_main_call0_v5, val_main_call0_v4, val_main_call0_v3, val_main_call0_v2, val_main_call0_v1, val_main_call0_v0, val_main_call0_cst, val_main_call0_cst_0, unit]
  rfl

open Cert.RefFfnIdeal.Read in
/-- The reference's second linear map. -/
theorem ref18_apply (x0 x1 x3 x4) (i : Fin 16384) (l : Fin 1024) :
    val_main_v18 (F := Ideal) x0 x1 x3 x4 (ix2 i l)
      = mixRow (fun k => val_main_v12 (F := Ideal) x0 x1 (ix2 i k)) (fun k f => x3 (ix2 k f)) (fun f k => x4 (ix2 f k)) l := by
  pointwise [val_main_v18, mixRow, ref17_apply]

open Cert.RefFfnIdeal.Read in
/-- The reference's result is the half-step on each row. -/
theorem ref34_apply (x0 x1 x2 x3 x4) (i : Fin 16384) (l : Fin 1024) :
    val_main_v34 (F := Ideal) x0 x1 x2 x3 x4 (ix2 i l)
      = stepRow (fun k => x0 (ix2 i k)) (mixRow (rmsRow (fun k => x0 (ix2 i k)) (fun k => x1 (ix1 k))) (fun k f => x3 (ix2 k f)) (fun f k => x4 (ix2 f k))) (fun k => x2 (ix1 k)) l := by
  have h : ∀ j, val_main_v18 (F := Ideal) x0 x1 x3 x4 (ix2 i j) = mixRow (rmsRow (fun k => x0 (ix2 i k)) (fun k => x1 (ix1 k))) (fun k f => x3 (ix2 k f)) (fun f k => x4 (ix2 f k)) j := fun j => by
    rw [ref18_apply, funext (ref12_apply x0 x1 i)]
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5, stepRow, rmsRow, h]

end Cert.FfnIdeal.Proved
end
-- ==== Proof.FfnArray.lean ====
module

public import proofs.«01_k».proof.Proof.FfnModel

/-! What the feed-forward kernel's result array holds: the half-step on every row. -/

@[expose] public section
set_option maxRecDepth 16384
noncomputable section
open Idealize Idealize.ShloMosaic
open scoped BigOperators
namespace Cert.FfnIdeal.Proved
open Cert.FfnIdeal Cert.FfnIdeal.Gen

variable (m : (ℓ : Loc nD τ sig) → Buf (Elt Ideal) ℓ) (c : Dev nD)

/-- Where each window stands at grid point `t`: the rows' windows at block row `t`, the others at the start. -/
theorem idx : ∀ t : Fin grid0.N, (win0_0.index t = ![t.val, 0] ∧ win0_6.index t = ![t.val, 0]) ∧ win0_1.index t = ![0, 0] ∧ win0_2.index t = ![0, 0]
    ∧ win0_3.index t = ![0, 0, 0] ∧ win0_4.index t = ![0, 0, 0] ∧ win0_5.index t = ![0, 0, 0] := by
  decide +kernel

/-- The gate weights in two chunks of 1408 columns. -/
theorem iblk3 (t : Fin cfg0.N) (a : Fin 2) (k : Fin 1024) (f : Fin 1408) :
    iblk m c 3 t (ix3 a k f) = m ((c.tc : Thread nD τ).loc main_arg3) (ix2 k ⟨a.val * 1408 + f.val, by omega⟩) := by
  blk_ext! [iblk, V, idx t]

/-- The other half of the first weights, in two chunks of 1408 columns. -/
theorem iblk4 (t : Fin cfg0.N) (a : Fin 2) (k : Fin 1024) (f : Fin 1408) :
    iblk m c 4 t (ix3 a k f) = m ((c.tc : Thread nD τ).loc main_arg3) (ix2 k ⟨2816 + (a.val * 1408 + f.val), by omega⟩) := by
  blk_ext! [iblk, V, idx t]

/-- The second weights, in two chunks of 1408 rows. -/
theorem iblk5 (t : Fin cfg0.N) (a : Fin 2) (f : Fin 1408) (k : Fin 1024) :
    iblk m c 5 t (ix3 a f k) = m ((c.tc : Thread nD τ).loc main_arg4) (ix2 ⟨a.val * 1408 + f.val, by omega⟩ k) := by
  blk_ext! [iblk, V, idx t]

/-- The gains before the two linear maps. -/
theorem iblk1 (t : Fin cfg0.N) (k : Fin 1024) : iblk m c 1 t (ix2 0 k) = m ((c.tc : Thread nD τ).loc main_arg1) (ix1 k) := by
  blk_ext! [iblk, V, idx t]

/-- The gains after the two linear maps. -/
theorem iblk2 (t : Fin cfg0.N) (k : Fin 1024) : iblk m c 2 t (ix2 0 k) = m ((c.tc : Thread nD τ).loc main_arg2) (ix1 k) := by
  blk_ext! [iblk, V, idx t]

/-- The rows: block `t` holds rows `512 t` to `512 t + 511`. -/
theorem iblk0 (t : Fin cfg0.N) (r : Fin 512) (k : Fin 1024) :
    iblk m c 0 t (ix2 r k) = m ((c.tc : Thread nD τ).loc main_arg0) (ix2 ⟨t.val * 512 + r.val, by have : t.val < 32 := t.isLt; omega⟩ k) := by
  blk_ext! [iblk, V, idx t]

/-- The half-step on row `i` of the argument, at lane `l`. -/
def step (i : Fin 16384) (l : Fin 1024) : EReal :=
  stepRow (fun k => m ((c.tc : Thread nD τ).loc main_arg0) (ix2 i k))
    (mixRow (rmsRow (fun k => m ((c.tc : Thread nD τ).loc main_arg0) (ix2 i k)) (fun k => m ((c.tc : Thread nD τ).loc main_arg1) (ix1 k)))
      (fun k f => m ((c.tc : Thread nD τ).loc main_arg3) (ix2 k f)) (fun f k => m ((c.tc : Thread nD τ).loc main_arg4) (ix2 f k)))
    (fun k => m ((c.tc : Thread nD τ).loc main_arg2) (ix1 k)) l

/-- What grid point `t` stores at row `r` of its block is the half-step on row `512 t + r`. -/
theorem point (t : Fin cfg0.N) (r : Fin 512) (l : Fin 1024) :
    k0_pay1 (F := Ideal) (iblk m c 0 t) (k0_pay2 (iblk m c 0 t) (iblk m c 1 t))
      (k0_pay3 (iblk m c 0 t) (iblk m c 1 t) (View.ld (iblk m c 3 t) r0_2) (View.ld (iblk m c 4 t) r0_2) (View.ld (iblk m c 5 t) r0_3))
      (k0_pay4 (iblk m c 0 t) (iblk m c 1 t) (View.ld (iblk m c 3 t) r0_4)) (View.ld (iblk m c 4 t) r0_4)
      (View.ld (iblk m c 5 t) r0_5) (iblk m c 2 t) (ix2 r l)
      = step m c ⟨t.val * 512 + r.val, by have : t.val < 32 := t.isLt; omega⟩ l :=
  stored_apply _ _ _ _ _ _ r l _ _ _ (fun k f => m ((c.tc : Thread nD τ).loc main_arg3) (ix2 k f)) (fun f k => m ((c.tc : Thread nD τ).loc main_arg4) (ix2 f k))
    (iblk0 m c t r) (iblk1 m c t) (iblk2 m c t) (iblk3 m c t) (iblk4 m c t) (iblk5 m c t)

/-- The result array after the run is the half-step on every row. -/
theorem result : (dats m 0 c).arrAt 6 cfg0.N = fun i => step m c (i 0) (i 1) := by
  refine (dats m 0 c).arrAt_eq_of_covers 6 _ (by decide +kernel) fun t hf y => ?_
  blk_simp
  rw [after0_6]
  frame_out
  revert y
  intro (y : S512x1024.Idx)
  idx_vars y
  refine (point m c t _ _).trans (congrArg₂ (step m c) (Fin.ext ?_) (Fin.ext ?_))
  · blk_simp [idx t]
    try simp
  · blk_simp [idx t]
    try simp

end Cert.FfnIdeal.Proved
end
-- ==== Proof.FfnClaim.lean ====
module

public import proofs.«01_k».proof.Defs
public import proofs.«01_k».proof.Proof.FfnArray
public import proofs.«01_k».proof.Proof.Gen.RefFfnIdeal.Run

/-! The feed-forward claim: kernel and reference end holding the same array. -/

@[expose] public section
set_option maxRecDepth 16384
noncomputable section
open Idealize Idealize.ShloMosaic
namespace Cert.FfnIdeal.Proved

/-- The feed-forward kernel and its reference end holding the same result. -/
theorem algebraic : Cert.algebraic_FfnIdeal_RefFfnIdeal := by
  pair_intro
  · run_from Cert.FfnIdeal.Value.run_blocks m g
  · run_from Cert.RefFfnIdeal.Value.run m' g'
    rw [result m c, Cert.RefFfnIdeal.Read.val_main_v34_eq m' c]
    obtain ⟨h0, h1, h2, h3, h4⟩ := hagree c
    rw [h0, h1, h2, h3, h4]
    funext y
    revert y
    intro (y : S16384x1024.Idx)
    idx_vars y
    exact ref34_apply _ _ _ _ _ _ _

end Cert.FfnIdeal.Proved
end
-- ==== Proof.FfnSampleClaim.lean ====
module

public import proofs.«01_k».proof.Defs
public import proofs.«01_k».proof.Proof.FfnModel
public import proofs.«01_k».proof.Proof.Gen.FfnSampleIdeal.Value
public import proofs.«01_k».proof.Proof.Gen.RefFfnSampleIdeal.Run
public import proofs.«01_k».proof.Proof.Gen.RefFfnSampleIdeal.Read

/-! The half-step at the sample batch's 32768 tokens: its blocks are those of the prompt batch, so only the arrays and
    the reference's stages are read anew. -/

@[expose] public section
set_option maxRecDepth 16384
noncomputable section
open Idealize Idealize.ShloMosaic
open scoped BigOperators
namespace Cert.FfnSampleIdeal.Proved
open Cert.FfnSampleIdeal Cert.FfnSampleIdeal.Gen
open Cert.FfnIdeal.Proved (rmsRow unit stepRow mixRow stored_apply)

/-! The two kernels store the same values of their blocks. -/
theorem pay1_eq : @k0_pay1 Ideal _ = @Cert.FfnIdeal.Gen.k0_pay1 Ideal _ := rfl
theorem pay2_eq : @k0_pay2 Ideal _ = @Cert.FfnIdeal.Gen.k0_pay2 Ideal _ := rfl
theorem pay3_eq : @k0_pay3 Ideal _ = @Cert.FfnIdeal.Gen.k0_pay3 Ideal _ := rfl
theorem pay4_eq : @k0_pay4 Ideal _ = @Cert.FfnIdeal.Gen.k0_pay4 Ideal _ := rfl

variable (m : (ℓ : Loc nD τ sig) → Buf (Elt Ideal) ℓ) (c : Dev nD)

/-- Where each window stands at grid point `t`. -/
theorem idx : ∀ t : Fin grid0.N, (win0_0.index t = ![t.val, 0] ∧ win0_6.index t = ![t.val, 0]) ∧ win0_1.index t = ![0, 0] ∧ win0_2.index t = ![0, 0]
    ∧ win0_3.index t = ![0, 0, 0] ∧ win0_4.index t = ![0, 0, 0] ∧ win0_5.index t = ![0, 0, 0] := by
  decide +kernel

/-- The rows: block `t` holds rows `512 t` to `512 t + 511`. -/
theorem iblk0 (t : Fin cfg0.N) (r : Fin 512) (k : Fin 1024) :
    iblk m c 0 t (ix2 r k) = m ((c.tc : Thread nD τ).loc main_arg0) (ix2 ⟨t.val * 512 + r.val, by have : t.val < 64 := t.isLt; omega⟩ k) := by
  blk_ext! [iblk, V, idx t]

theorem iblk1 (t : Fin cfg0.N) (k : Fin 1024) : iblk m c 1 t (ix2 0 k) = m ((c.tc : Thread nD τ).loc main_arg1) (ix1 k) := by
  blk_ext! [iblk, V, idx t]

theorem iblk2 (t : Fin cfg0.N) (k : Fin 1024) : iblk m c 2 t (ix2 0 k) = m ((c.tc : Thread nD τ).loc main_arg2) (ix1 k) := by
  blk_ext! [iblk, V, idx t]

theorem iblk3 (t : Fin cfg0.N) (a : Fin 2) (k : Fin 1024) (f : Fin 1408) :
    iblk m c 3 t (ix3 a k f) = m ((c.tc : Thread nD τ).loc main_arg3) (ix2 k ⟨a.val * 1408 + f.val, by omega⟩) := by
  blk_ext! [iblk, V, idx t]

theorem iblk4 (t : Fin cfg0.N) (a : Fin 2) (k : Fin 1024) (f : Fin 1408) :
    iblk m c 4 t (ix3 a k f) = m ((c.tc : Thread nD τ).loc main_arg3) (ix2 k ⟨2816 + (a.val * 1408 + f.val), by omega⟩) := by
  blk_ext! [iblk, V, idx t]

theorem iblk5 (t : Fin cfg0.N) (a : Fin 2) (f : Fin 1408) (k : Fin 1024) :
    iblk m c 5 t (ix3 a f k) = m ((c.tc : Thread nD τ).loc main_arg4) (ix2 ⟨a.val * 1408 + f.val, by omega⟩ k) := by
  blk_ext! [iblk, V, idx t]

/-- The half-step on row `i` of the argument, at lane `l`. -/
def step (i : Fin 32768) (l : Fin 1024) : EReal :=
  stepRow (fun k => m ((c.tc : Thread nD τ).loc main_arg0) (ix2 i k))
    (mixRow (rmsRow (fun k => m ((c.tc : Thread nD τ).loc main_arg0) (ix2 i k)) (fun k => m ((c.tc : Thread nD τ).loc main_arg1) (ix1 k)))
      (fun k f => m ((c.tc : Thread nD τ).loc main_arg3) (ix2 k f)) (fun f k => m ((c.tc : Thread nD τ).loc main_arg4) (ix2 f k)))
    (fun k => m ((c.tc : Thread nD τ).loc main_arg2) (ix1 k)) l

/-- What grid point `t` stores at row `r` of its block is the half-step on row `512 t + r`. -/
theorem point (t : Fin cfg0.N) (r : Fin 512) (l : Fin 1024) :
    k0_pay1 (F := Ideal) (iblk m c 0 t) (k0_pay2 (iblk m c 0 t) (iblk m c 1 t))
      (k0_pay3 (iblk m c 0 t) (iblk m c 1 t) (View.ld (iblk m c 3 t) r0_2) (View.ld (iblk m c 4 t) r0_2) (View.ld (iblk m c 5 t) r0_3))
      (k0_pay4 (iblk m c 0 t) (iblk m c 1 t) (View.ld (iblk m c 3 t) r0_4)) (View.ld (iblk m c 4 t) r0_4)
      (View.ld (iblk m c 5 t) r0_5) (iblk m c 2 t) (ix2 r l)
      = step m c ⟨t.val * 512 + r.val, by have : t.val < 64 := t.isLt; omega⟩ l := by
  rw [pay1_eq, pay2_eq, pay3_eq, pay4_eq]
  exact stored_apply _ _ _ _ _ _ r l _ _ _ (fun k f => m ((c.tc : Thread nD τ).loc main_arg3) (ix2 k f)) (fun f k => m ((c.tc : Thread nD τ).loc main_arg4) (ix2 f k))
    (iblk0 m c t r) (iblk1 m c t) (iblk2 m c t) (iblk3 m c t) (iblk4 m c t) (iblk5 m c t)

/-- The result array after the run is the half-step on every row. -/
theorem result : (dats m 0 c).arrAt 6 cfg0.N = fun i => step m c (i 0) (i 1) := by
  refine (dats m 0 c).arrAt_eq_of_covers 6 _ (by decide +kernel) fun t hf y => ?_
  blk_simp
  rw [after0_6]
  frame_out
  revert y
  intro (y : S512x1024.Idx)
  idx_vars y
  refine (point m c t _ _).trans (congrArg₂ (step m c) (Fin.ext ?_) (Fin.ext ?_))
  · blk_simp [idx t]
    try simp
  · blk_simp [idx t]
    try simp

open Cert.RefFfnSampleIdeal.Read in
/-- The reference's normalized rows. -/
theorem ref12_apply (x0 x1) (i : Fin 32768) (l : Fin 1024) :
    val_main_v12 (F := Ideal) x0 x1 (ix2 i l) = rmsRow (fun k => x0 (ix2 i k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

open Cert.RefFfnSampleIdeal.Read in
/-- The reference's hidden units. -/
theorem ref17_apply (x0 x1 x3) (i : Fin 32768) (f : Fin 2816) :
    val_main_v17 (F := Ideal) x0 x1 x3 (ix2 i f)
      = unit (fun k => val_main_v12 (F := Ideal) x0 x1 (ix2 i k)) (fun k => x3 (ix2 k ⟨f, by omega⟩)) (fun k => x3 (ix2 k ⟨2816 + f, by omega⟩)) := by
  pointwise [val_main_v17, val_main_v16, val_main_v15, val_main_v14, val_main_v13, val_main_call0_v5, val_main_call0_v4, val_main_call0_v3, val_main_call0_v2, val_main_call0_v1, val_main_call0_v0, val_main_call0_cst, val_main_call0_cst_0, unit]
  rfl

open Cert.RefFfnSampleIdeal.Read in
/-- The reference's second linear map. -/
theorem ref18_apply (x0 x1 x3 x4) (i : Fin 32768) (l : Fin 1024) :
    val_main_v18 (F := Ideal) x0 x1 x3 x4 (ix2 i l)
      = mixRow (rmsRow (fun k => x0 (ix2 i k)) (fun k => x1 (ix1 k))) (fun k f => x3 (ix2 k f)) (fun f k => x4 (ix2 f k)) l := by
  rw [← funext (ref12_apply x0 x1 i)]
  pointwise [val_main_v18, mixRow, ref17_apply]

open Cert.RefFfnSampleIdeal.Read in
/-- The reference's result is the half-step on each row. -/
theorem ref34_apply (x0 x1 x2 x3 x4) (i : Fin 32768) (l : Fin 1024) :
    val_main_v34 (F := Ideal) x0 x1 x2 x3 x4 (ix2 i l)
      = stepRow (fun k => x0 (ix2 i k)) (mixRow (rmsRow (fun k => x0 (ix2 i k)) (fun k => x1 (ix1 k))) (fun k f => x3 (ix2 k f)) (fun f k => x4 (ix2 f k))) (fun k => x2 (ix1 k)) l := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5, stepRow, rmsRow, ref18_apply]

/-- The half-step's kernel and reference end holding the same result for the sample batch. -/
theorem algebraic : Cert.algebraic_FfnSampleIdeal_RefFfnSampleIdeal := by
  pair_intro
  · run_from Cert.FfnSampleIdeal.Value.run_blocks m g
  · run_from Cert.RefFfnSampleIdeal.Value.run m' g'
    rw [result m c, Cert.RefFfnSampleIdeal.Read.val_main_v34_eq m' c]
    obtain ⟨h0, h1, h2, h3, h4⟩ := hagree c
    rw [h0, h1, h2, h3, h4]
    funext y
    revert y
    intro (y : S32768x1024.Idx)
    idx_vars y
    exact ref34_apply _ _ _ _ _ _ _

end Cert.FfnSampleIdeal.Proved
end
-- ==== Proof.AttnModel.lean ====
/- One row of attention over the extended reals: dividing the weighted sum of the values by the sum of the weights is
   the same as weighting the values with the divided weights, when no score is plus infinity and some score is real. -/
module

public import Idealize.ShloMosaic.PureOps.Ideal
public import Idealize.ShloMosaic.Lib.ValueIdx

@[expose] public section

noncomputable section

namespace Cert.Attn

open Idealize.ShloMosaic

/-- The largest of a row of scores. -/
def rowMax {n : ℕ} (s : Fin n → EReal) : EReal := (Finset.univ : Finset (Fin n)).fold max ⊥ s

/-- The weight of position `w`: the exponential of its score less the largest score. -/
def weight {n : ℕ} (s : Fin n → EReal) (w : Fin n) : EReal := Ideal.exp (s w - rowMax s)

/-- The kernel's row: the weighted sum of the values divided by the sum of the weights. -/
def soft {n : ℕ} (s v : Fin n → EReal) : EReal := Ideal.div (∑ w, weight s w * v w) (∑ w, weight s w)

/-- A positive real factor distributes over a sum of extended reals. -/
theorem sum_mul_real {n : ℕ} (f : Fin n → EReal) (c : ℝ) (hc : 0 ≤ c) (t : Finset (Fin n)) :
    (∑ w ∈ t, f w) * (c : EReal) = ∑ w ∈ t, f w * (c : EReal) := by
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A sum of reals, taken over the extended reals, is that real sum. -/
theorem sum_coe {n : ℕ} (f : Fin n → ℝ) (t : Finset (Fin n)) :
    (∑ w ∈ t, (f w : EReal)) = ((∑ w ∈ t, f w : ℝ) : EReal) := by
  induction t using Finset.induction_on with
  | empty => simp
  | insert a t ha ih => rw [Finset.sum_insert ha, Finset.sum_insert ha, ih, EReal.coe_add]

theorem le_rowMax {n : ℕ} (s : Fin n → EReal) (w : Fin n) : s w ≤ rowMax s :=
  (Finset.le_fold_max (s w)).mpr (.inr ⟨w, Finset.mem_univ w, le_rfl⟩)

theorem rowMax_ne_top {n : ℕ} (s : Fin n → EReal) (hs : ∀ w, s w ≠ ⊤) : rowMax s ≠ ⊤ :=
  ((Finset.fold_max_lt (b := (⊥ : EReal)) ⊤).mpr ⟨bot_lt_top, fun w _ => lt_top_iff_ne_top.mpr (hs w)⟩).ne

/-- Every weight is a nonnegative real; where the score is real, a positive one. -/
theorem weight_real {n : ℕ} (s : Fin n → EReal) (hs : ∀ w, s w ≠ ⊤) (hr : ∃ w, s w ≠ ⊥) :
    ∃ p : Fin n → ℝ, (∀ w, weight s w = (p w : EReal)) ∧ (∀ w, 0 ≤ p w) ∧ ∃ w, 0 < p w := by
  obtain ⟨w₀, h₀⟩ := hr
  have hM : rowMax s ≠ ⊥ := fun h => h₀ (le_bot_iff.mp (h ▸ le_rowMax s w₀))
  have hx : ∀ w, ∃ x : ℝ, weight s w = (x : EReal) ∧ 0 ≤ x ∧ (s w ≠ ⊥ → 0 < x) := by
    intro w
    unfold weight
    lift rowMax s to ℝ using ⟨rowMax_ne_top s hs, hM⟩ with M
    by_cases hw : s w = ⊥
    · refine ⟨0, ?_, le_rfl, fun h => absurd hw h⟩
      rw [hw, EReal.bot_sub]; rfl
    · lift s w to ℝ using ⟨hs w, hw⟩ with a
      refine ⟨Real.exp (a - M), ?_, (Real.exp_pos _).le, fun _ => Real.exp_pos _⟩
      rw [← EReal.coe_sub]; rfl
  choose p h1 h2 h3 using hx
  exact ⟨p, h1, h2, w₀, h3 w₀ h₀⟩

/-- Dividing after the weighted sum is weighting by the divided weights. -/
theorem soft_eq {n : ℕ} (s v : Fin n → EReal) (hs : ∀ w, s w ≠ ⊤) (hr : ∃ w, s w ≠ ⊥) :
    soft s v = ∑ w, Ideal.div (weight s w) (∑ w, weight s w) * v w := by
  obtain ⟨p, hp, hp0, w₀, hw₀⟩ := weight_real s hs hr
  have hL : (∑ w, weight s w) = ((∑ w, p w : ℝ) : EReal) := by
    rw [← sum_coe]; exact Finset.sum_congr rfl fun w _ => hp w
  have hpos : 0 < ∑ w, p w := Finset.sum_pos' (fun w _ => hp0 w) ⟨w₀, Finset.mem_univ _, hw₀⟩
  have hne : ((∑ w, p w : ℝ) : EReal) ≠ 0 := by exact_mod_cast hpos.ne'
  have hdiv : ∀ x : EReal, Ideal.div x ((∑ w, p w : ℝ) : EReal) = x * (((∑ w, p w)⁻¹ : ℝ) : EReal) := by
    intro x; unfold Ideal.div; rw [if_neg hne, EReal.coe_inv]
  unfold soft
  rw [hL, hdiv, sum_mul_real _ _ (inv_nonneg.mpr hpos.le)]
  refine Finset.sum_congr rfl fun w _ => ?_
  rw [hdiv, mul_right_comm]

end Cert.Attn

end
-- ==== Proof.AttnGroup.lean ====
/- What one group of four heads stores for one row of the grid: at each query and lane, the attention row of the lane's
   head over the 512 keys of the window. -/
module

public import proofs.«01_k».proof.Proof.Gen.KernelIdeal.Value
public import proofs.«01_k».proof.Proof.AttnModel
public import Idealize.ShloMosaic.Lib.Pointwise
public import Idealize.ShloMosaic.Lib.Pipeline.ValueKit

@[expose] public section
set_option maxRecDepth 16384
noncomputable section
open Idealize Idealize.ShloMosaic
open scoped BigOperators
namespace Cert.KernelIdeal.Proved
open Cert.KernelIdeal Cert.KernelIdeal.Gen Cert.Attn

/-- The lane masks: mask `h` holds the lanes of head `h`. -/
theorem mask0 (r : Fin 64) (l : Fin 128) : k0_pay92 (ix2 r l) = if l.val / 32 = 0 then 1#1 else 0#1 := by
  pointwise [k0_pay92, k0_pay91]
  revert l; decide +kernel

theorem mask1 (r : Fin 64) (l : Fin 128) : k0_pay93 (ix2 r l) = if l.val / 32 = 1 then 1#1 else 0#1 := by
  pointwise [k0_pay93, k0_pay91]
  revert l; decide +kernel

theorem mask2 (r : Fin 64) (l : Fin 128) : k0_pay94 (ix2 r l) = if l.val / 32 = 2 then 1#1 else 0#1 := by
  pointwise [k0_pay94, k0_pay91]
  revert l; decide +kernel

theorem mask3 (r : Fin 64) (l : Fin 128) : k0_pay95 (ix2 r l) = if l.val / 32 = 3 then 1#1 else 0#1 := by
  pointwise [k0_pay95, k0_pay91]
  revert l; decide +kernel

/-- The unscaled scores of head `h`: the query's lanes of that head times the key's lanes. -/
theorem pay1_apply (q : Vec Ideal S1x64x128 .bf16) (kw : Vec Ideal S512x128 .bf16) (h : Fin 4) (r : Fin 64) (w : Fin 512) :
    k0_pay1 (F := Ideal) k0_pay92 k0_pay93 k0_pay94 k0_pay95 q kw (ix2 ⟨h.val * 64 + r.val, by omega⟩ w)
      = ∑ l : Fin 128, (if l.val / 32 = h.val then q (ix3 0 r l) else 0) * kw (ix2 w l) := by
  pointwise [k0_pay1]
  refine Finset.sum_congr rfl fun x _ => congrArg (· * kw (ix2 w x)) ?_
  simp only [mask0, mask1, mask2, mask3]
  rcases h with ⟨_ | _ | _ | _ | h, hh⟩
  · rw [dif_pos (by simp only [Fin.val_mk]; omega)]
    simp [Scalar.select]
  · rw [dif_neg (by simp only [Fin.val_mk]; omega), dif_pos (by simp only [Fin.val_mk]; omega)]
    simp [Scalar.select]
  · rw [dif_neg (by simp only [Fin.val_mk]; omega), dif_neg (by simp only [Fin.val_mk]; omega), dif_pos (by simp only [Fin.val_mk]; omega)]
    simp [Scalar.select, Nat.sub_sub, Nat.add_sub_cancel_left]
  · rw [dif_neg (by simp only [Fin.val_mk]; omega), dif_neg (by simp only [Fin.val_mk]; omega), dif_neg (by simp only [Fin.val_mk]; omega)]
    simp [Scalar.select, Nat.sub_sub, Nat.add_sub_cancel_left]
  · omega

/-- Four bias blocks side by side: column `w` is column `w % 128` of block `w / 128`. -/
theorem pay4_apply (b : Fin 4 → Vec Ideal S1x1x64x128 .f32) (r : Fin 64) (w : Fin 512) :
    k0_pay4 (F := Ideal) (b 0) (b 1) (b 2) (b 3) (ix2 r w) = b ⟨w.val / 128, by omega⟩ (ix4 0 0 r ⟨w.val % 128, by omega⟩) := by
  have key : ∀ (k : Fin 4) (u : Fin 128), w.val = k.val * 128 + u.val →
      b k (ix4 0 0 r u) = b ⟨w.val / 128, by omega⟩ (ix4 0 0 r ⟨w.val % 128, by omega⟩) := by
    intro k u e
    have e1 : (⟨w.val / 128, by omega⟩ : Fin 4) = k := Fin.ext (by show w.val / 128 = k.val; omega)
    have e2 : (⟨w.val % 128, by omega⟩ : Fin 128) = u := Fin.ext (by show w.val % 128 = u.val; omega)
    rw [e1, e2]
  pointwise [k0_pay4]
  split_ifs <;> first
    | exact key 0 ⟨w.val, by omega⟩ (by show w.val = 0 * 128 + w.val; omega)
    | exact key 1 ⟨w.val - 128, by omega⟩ (by show w.val = 1 * 128 + (w.val - 128); omega)
    | exact key 2 ⟨w.val - 128 - 128, by omega⟩ (by show w.val = 2 * 128 + (w.val - 128 - 128); omega)
    | exact key 3 ⟨w.val - 128 - 128 - 128, by omega⟩ (by show w.val = 3 * 128 + (w.val - 128 - 128 - 128); omega)

/-- The block one group stores, from the unscaled scores and the four heads' bias rows. -/
theorem pay7_apply (vw : Vec Ideal S512x128 .bf16) (s : FVec Ideal S256x512 .f32) (b : Fin 4 → FVec Ideal S64x512 .f32)
    (r : Fin 64) (l : Fin 128) :
    k0_pay7 (F := Ideal) k0_pay92 k0_pay93 k0_pay94 k0_pay95 vw s (b 0) (b 1) (b 2) (b 3) (ix3 0 r l)
      = soft (fun w => s (ix2 ⟨l.val / 32 * 64 + r.val, by omega⟩ w) * Ideal.ofBits FTy.f32 0x3E3504F3#32 + b ⟨l.val / 32, by omega⟩ (ix2 r w))
          (fun w => vw (ix2 w l)) := by
  have hb : Ideal.ofBits FTy.f32 0xFF800000#32 = ⊥ := by simp [Ideal.ofBits, Ideal.ieee]
  have h1 : ¬ 64 + r.val < 64 := by omega
  have h2 : ¬ 128 + r.val < 64 := by omega
  have h3 : ¬ 192 + r.val < 64 := by omega
  have h4 : ¬ 128 + r.val - 64 < 64 := by omega
  have h5 : ¬ 192 + r.val - 64 < 64 := by omega
  have h6 : ¬ 192 + r.val - 128 < 64 := by omega
  have s1 : ∀ x y : EReal, Scalar.select 1#1 x y = x := fun _ _ => rfl
  have s0 : ∀ x y : EReal, Scalar.select 0#1 x y = y := fun _ _ => rfl
  have hl : l.val / 32 = 0 ∨ l.val / 32 = 1 ∨ l.val / 32 = 2 ∨ l.val / 32 = 3 := by omega
  pointwise [k0_pay7]
  simp only [mask0, mask1, mask2, mask3, h1, h2, h3, h4, h5, h6, dif_neg, dif_pos, not_false_eq_true, Nat.sub_sub, Nat.reduceAdd,
    Nat.reduceSubDiff, Nat.add_sub_cancel_left, Fin.eta, Fin.is_lt]
  unfold soft weight rowMax
  rcases hl with h | h | h | h
  · simp only [h, s1, s0, if_true, reduceCtorEq, if_false, add_zero, zero_add, Nat.zero_mul, hb, OfNat.ofNat_ne_zero, OfNat.zero_ne_ofNat, zero_ne_one]
    rfl
  · simp only [h, s1, s0, if_true, one_ne_zero, if_false, add_zero, zero_add, Nat.one_mul, hb, OfNat.one_ne_ofNat]
    rfl
  · simp only [h, s1, s0, if_true, OfNat.ofNat_ne_zero, OfNat.ofNat_ne_one, if_false, add_zero, zero_add, Nat.reduceMul, hb, Nat.reduceEqDiff]
    rfl
  · simp only [h, s1, s0, if_true, OfNat.ofNat_ne_zero, OfNat.ofNat_ne_one, if_false, add_zero, zero_add, Nat.reduceMul, hb, Nat.reduceEqDiff]
    rfl

end Cert.KernelIdeal.Proved
end
-- ==== Proof.AttnTrip.lean ====
/- The eight stores of one trip of the row loop: each is the group's block at that row, from the query row, the window of
   the keys and values, and the bias rows. -/
module

public import proofs.«01_k».proof.Proof.AttnGroup

@[expose] public section
set_option maxRecDepth 16384
noncomputable section
open Idealize Idealize.ShloMosaic Idealize.ShloMosaic.TcCoe
namespace Cert.KernelIdeal.Proved
open Cert.KernelIdeal Cert.KernelIdeal.Gen Cert.Attn

/-- The first grid row of the window of grid row `r`. -/
def start (r : ℕ) : ℕ := min (r - 4) 56

/-- The window's first row inside the buffer of 24 rows that grid point `i` holds. -/
def win (i : grid0.Coords) (k : Fin k0_t1_loop.trips) : ℕ := start (16 * (i 1).val + k.val) + 4 - 16 * (i 1).val

/-- The first row of the bias table for that window. -/
def delta (i : grid0.Coords) (k : Fin k0_t1_loop.trips) : ℕ := start (16 * (i 1).val + k.val) + 7 - (16 * (i 1).val + k.val)

theorem off_q0 : ∀ k : Fin k0_t1_loop.trips, k0_off1 k = ![0, 64 * k.val, 0] := by decide +kernel
theorem off_k0 : ∀ (i : grid0.Coords) (k : Fin k0_t1_loop.trips), k0_off2 i k = ![64 * win i k, 0] := by decide +kernel
theorem off_b0 : ∀ (i : grid0.Coords) (k : Fin k0_t1_loop.trips) (p : Fin 4), k0_off3 i k (BitVec.ofNat 32 (2 * p.val)) = ![0, delta i k + 2 * p.val, 0, 0] := by decide +kernel
theorem off_b1 : ∀ (i : grid0.Coords) (k : Fin k0_t1_loop.trips) (p : Fin 4), k0_off4 i k (BitVec.ofNat 32 (2 * p.val)) = ![1, delta i k + 2 * p.val, 0, 0] := by decide +kernel
theorem off_b2 : ∀ (i : grid0.Coords) (k : Fin k0_t1_loop.trips) (p : Fin 4), k0_off5 i k (BitVec.ofNat 32 (2 * p.val)) = ![2, delta i k + 2 * p.val, 0, 0] := by decide +kernel
theorem off_b3 : ∀ (i : grid0.Coords) (k : Fin k0_t1_loop.trips) (p : Fin 4), k0_off6 i k (BitVec.ofNat 32 (2 * p.val)) = ![3, delta i k + 2 * p.val, 0, 0] := by decide +kernel
theorem off_q1 : ∀ k : Fin k0_t1_loop.trips, k0_off7 k = ![0, 64 * k.val, 128] := by decide +kernel
theorem off_k1 : ∀ (i : grid0.Coords) (k : Fin k0_t1_loop.trips), k0_off8 i k = ![64 * win i k, 128] := by decide +kernel
theorem off_b4 : ∀ (i : grid0.Coords) (k : Fin k0_t1_loop.trips) (p : Fin 4), k0_off9 i k (BitVec.ofNat 32 (2 * p.val)) = ![4, delta i k + 2 * p.val, 0, 0] := by decide +kernel
theorem off_b5 : ∀ (i : grid0.Coords) (k : Fin k0_t1_loop.trips) (p : Fin 4), k0_off10 i k (BitVec.ofNat 32 (2 * p.val)) = ![5, delta i k + 2 * p.val, 0, 0] := by decide +kernel
theorem off_b6 : ∀ (i : grid0.Coords) (k : Fin k0_t1_loop.trips) (p : Fin 4), k0_off11 i k (BitVec.ofNat 32 (2 * p.val)) = ![6, delta i k + 2 * p.val, 0, 0] := by decide +kernel
theorem off_b7 : ∀ (i : grid0.Coords) (k : Fin k0_t1_loop.trips) (p : Fin 4), k0_off12 i k (BitVec.ofNat 32 (2 * p.val)) = ![7, delta i k + 2 * p.val, 0, 0] := by decide +kernel
theorem off_q2 : ∀ k : Fin k0_t1_loop.trips, k0_off13 k = ![0, 64 * k.val, 256] := by decide +kernel
theorem off_k2 : ∀ (i : grid0.Coords) (k : Fin k0_t1_loop.trips), k0_off14 i k = ![64 * win i k, 256] := by decide +kernel
theorem off_b8 : ∀ (i : grid0.Coords) (k : Fin k0_t1_loop.trips) (p : Fin 4), k0_off15 i k (BitVec.ofNat 32 (2 * p.val)) = ![8, delta i k + 2 * p.val, 0, 0] := by decide +kernel
theorem off_b9 : ∀ (i : grid0.Coords) (k : Fin k0_t1_loop.trips) (p : Fin 4), k0_off16 i k (BitVec.ofNat 32 (2 * p.val)) = ![9, delta i k + 2 * p.val, 0, 0] := by decide +kernel
theorem off_b10 : ∀ (i : grid0.Coords) (k : Fin k0_t1_loop.trips) (p : Fin 4), k0_off17 i k (BitVec.ofNat 32 (2 * p.val)) = ![10, delta i k + 2 * p.val, 0, 0] := by decide +kernel
theorem off_b11 : ∀ (i : grid0.Coords) (k : Fin k0_t1_loop.trips) (p : Fin 4), k0_off18 i k (BitVec.ofNat 32 (2 * p.val)) = ![11, delta i k + 2 * p.val, 0, 0] := by decide +kernel
theorem off_q3 : ∀ k : Fin k0_t1_loop.trips, k0_off19 k = ![0, 64 * k.val, 384] := by decide +kernel
theorem off_k3 : ∀ (i : grid0.Coords) (k : Fin k0_t1_loop.trips), k0_off20 i k = ![64 * win i k, 384] := by decide +kernel
theorem off_b12 : ∀ (i : grid0.Coords) (k : Fin k0_t1_loop.trips) (p : Fin 4), k0_off21 i k (BitVec.ofNat 32 (2 * p.val)) = ![12, delta i k + 2 * p.val, 0, 0] := by decide +kernel
theorem off_b13 : ∀ (i : grid0.Coords) (k : Fin k0_t1_loop.trips) (p : Fin 4), k0_off22 i k (BitVec.ofNat 32 (2 * p.val)) = ![13, delta i k + 2 * p.val, 0, 0] := by decide +kernel
theorem off_b14 : ∀ (i : grid0.Coords) (k : Fin k0_t1_loop.trips) (p : Fin 4), k0_off23 i k (BitVec.ofNat 32 (2 * p.val)) = ![14, delta i k + 2 * p.val, 0, 0] := by decide +kernel
theorem off_b15 : ∀ (i : grid0.Coords) (k : Fin k0_t1_loop.trips) (p : Fin 4), k0_off24 i k (BitVec.ofNat 32 (2 * p.val)) = ![15, delta i k + 2 * p.val, 0, 0] := by decide +kernel
theorem off_q4 : ∀ k : Fin k0_t1_loop.trips, k0_off25 k = ![0, 64 * k.val, 512] := by decide +kernel
theorem off_k4 : ∀ (i : grid0.Coords) (k : Fin k0_t1_loop.trips), k0_off26 i k = ![64 * win i k, 512] := by decide +kernel
theorem off_b16 : ∀ (i : grid0.Coords) (k : Fin k0_t1_loop.trips) (p : Fin 4), k0_off27 i k (BitVec.ofNat 32 (2 * p.val)) = ![16, delta i k + 2 * p.val, 0, 0] := by decide +kernel
theorem off_b17 : ∀ (i : grid0.Coords) (k : Fin k0_t1_loop.trips) (p : Fin 4), k0_off28 i k (BitVec.ofNat 32 (2 * p.val)) = ![17, delta i k + 2 * p.val, 0, 0] := by decide +kernel
theorem off_b18 : ∀ (i : grid0.Coords) (k : Fin k0_t1_loop.trips) (p : Fin 4), k0_off29 i k (BitVec.ofNat 32 (2 * p.val)) = ![18, delta i k + 2 * p.val, 0, 0] := by decide +kernel
theorem off_b19 : ∀ (i : grid0.Coords) (k : Fin k0_t1_loop.trips) (p : Fin 4), k0_off30 i k (BitVec.ofNat 32 (2 * p.val)) = ![19, delta i k + 2 * p.val, 0, 0] := by decide +kernel
theorem off_q5 : ∀ k : Fin k0_t1_loop.trips, k0_off31 k = ![0, 64 * k.val, 640] := by decide +kernel
theorem off_k5 : ∀ (i : grid0.Coords) (k : Fin k0_t1_loop.trips), k0_off32 i k = ![64 * win i k, 640] := by decide +kernel
theorem off_b20 : ∀ (i : grid0.Coords) (k : Fin k0_t1_loop.trips) (p : Fin 4), k0_off33 i k (BitVec.ofNat 32 (2 * p.val)) = ![20, delta i k + 2 * p.val, 0, 0] := by decide +kernel
theorem off_b21 : ∀ (i : grid0.Coords) (k : Fin k0_t1_loop.trips) (p : Fin 4), k0_off34 i k (BitVec.ofNat 32 (2 * p.val)) = ![21, delta i k + 2 * p.val, 0, 0] := by decide +kernel
theorem off_b22 : ∀ (i : grid0.Coords) (k : Fin k0_t1_loop.trips) (p : Fin 4), k0_off35 i k (BitVec.ofNat 32 (2 * p.val)) = ![22, delta i k + 2 * p.val, 0, 0] := by decide +kernel
theorem off_b23 : ∀ (i : grid0.Coords) (k : Fin k0_t1_loop.trips) (p : Fin 4), k0_off36 i k (BitVec.ofNat 32 (2 * p.val)) = ![23, delta i k + 2 * p.val, 0, 0] := by decide +kernel
theorem off_q6 : ∀ k : Fin k0_t1_loop.trips, k0_off37 k = ![0, 64 * k.val, 768] := by decide +kernel
theorem off_k6 : ∀ (i : grid0.Coords) (k : Fin k0_t1_loop.trips), k0_off38 i k = ![64 * win i k, 768] := by decide +kernel
theorem off_b24 : ∀ (i : grid0.Coords) (k : Fin k0_t1_loop.trips) (p : Fin 4), k0_off39 i k (BitVec.ofNat 32 (2 * p.val)) = ![24, delta i k + 2 * p.val, 0, 0] := by decide +kernel
theorem off_b25 : ∀ (i : grid0.Coords) (k : Fin k0_t1_loop.trips) (p : Fin 4), k0_off40 i k (BitVec.ofNat 32 (2 * p.val)) = ![25, delta i k + 2 * p.val, 0, 0] := by decide +kernel
theorem off_b26 : ∀ (i : grid0.Coords) (k : Fin k0_t1_loop.trips) (p : Fin 4), k0_off41 i k (BitVec.ofNat 32 (2 * p.val)) = ![26, delta i k + 2 * p.val, 0, 0] := by decide +kernel
theorem off_b27 : ∀ (i : grid0.Coords) (k : Fin k0_t1_loop.trips) (p : Fin 4), k0_off42 i k (BitVec.ofNat 32 (2 * p.val)) = ![27, delta i k + 2 * p.val, 0, 0] := by decide +kernel
theorem off_q7 : ∀ k : Fin k0_t1_loop.trips, k0_off43 k = ![0, 64 * k.val, 896] := by decide +kernel
theorem off_k7 : ∀ (i : grid0.Coords) (k : Fin k0_t1_loop.trips), k0_off44 i k = ![64 * win i k, 896] := by decide +kernel
theorem off_b28 : ∀ (i : grid0.Coords) (k : Fin k0_t1_loop.trips) (p : Fin 4), k0_off45 i k (BitVec.ofNat 32 (2 * p.val)) = ![28, delta i k + 2 * p.val, 0, 0] := by decide +kernel
theorem off_b29 : ∀ (i : grid0.Coords) (k : Fin k0_t1_loop.trips) (p : Fin 4), k0_off46 i k (BitVec.ofNat 32 (2 * p.val)) = ![29, delta i k + 2 * p.val, 0, 0] := by decide +kernel
theorem off_b30 : ∀ (i : grid0.Coords) (k : Fin k0_t1_loop.trips) (p : Fin 4), k0_off47 i k (BitVec.ofNat 32 (2 * p.val)) = ![30, delta i k + 2 * p.val, 0, 0] := by decide +kernel
theorem off_b31 : ∀ (i : grid0.Coords) (k : Fin k0_t1_loop.trips) (p : Fin 4), k0_off48 i k (BitVec.ofNat 32 (2 * p.val)) = ![31, delta i k + 2 * p.val, 0, 0] := by decide +kernel

/-- One group's block from the query row, the window's keys and values, and the sixteen bias blocks. -/
def group (q : Vec Ideal S1x64x128 .bf16) (kw vw : Vec Ideal S512x128 .bf16) (b : Fin 4 → Fin 4 → Vec Ideal S1x1x64x128 .f32) : FVec Ideal S1x64x128 .bf16 :=
  k0_pay7 (F := Ideal) k0_pay92 k0_pay93 k0_pay94 k0_pay95 vw (k0_pay1 (F := Ideal) k0_pay92 k0_pay93 k0_pay94 k0_pay95 q kw)
    (k0_pay4 (F := Ideal) (b 0 0) (b 0 1) (b 0 2) (b 0 3)) (k0_pay4 (F := Ideal) (b 1 0) (b 1 1) (b 1 2) (b 1 3))
    (k0_pay4 (F := Ideal) (b 2 0) (b 2 1) (b 2 2) (b 2 3)) (k0_pay4 (F := Ideal) (b 3 0) (b 3 1) (b 3 2) (b 3 3))

/-- The store of one group: where it goes and what it holds, from where it loads. -/
def piece (arg2 : Memref sig .tc .vmem S1x1024x1024 .bf16) (arg9 : Memref sig .tc .vmem S32x14x64x128 .f32)
    (arg11 arg12 : Memref sig .tc .vmem S1536x1024 .bf16) (X2 : BufTy.Contents (Elt Ideal) arg2.view.ty) (X9 : BufTy.Contents (Elt Ideal) arg9.view.ty)
    (X11 : BufTy.Contents (Elt Ideal) arg11.view.ty) (X12 : BufTy.Contents (Elt Ideal) arg12.view.ty)
    (o : Fin 3 → ℕ) (ho : ∀ a, o a + S1x64x128.size a ≤ S1x1024x1024.size a)
    (u : Fin 2 → ℕ) (hu : ∀ a, u a + S512x128.size a ≤ S1536x1024.size a)
    (b : Fin 4 → Fin 4 → Fin 4 → ℕ) (hb : ∀ (h p : Fin 4), ∀ a, b h p a + S1x1x64x128.size a ≤ S32x14x64x128.size a) :
    View.Piece (Elt Ideal) S1x1024x1024 .bf16 :=
  ⟨Rect.unit (s := S1x1024x1024) o S1x64x128.size ho,
    group (View.readAt (Elt Ideal) arg2.view (Rect.unit (s := S1x1024x1024) o S1x64x128.size ho).toLoadRect X2)
      (View.readAt (Elt Ideal) arg11.view (Rect.unit (s := S1536x1024) u S512x128.size hu).toLoadRect X11)
      (View.readAt (Elt Ideal) arg12.view (Rect.unit (s := S1536x1024) u S512x128.size hu).toLoadRect X12)
      (fun h p => View.readAt (Elt Ideal) arg9.view (Rect.unit (s := S32x14x64x128) (b h p) S1x1x64x128.size (hb h p)).toLoadRect X9)⟩

/-- Where group 0 loads its sixteen bias blocks. -/
def bOff0 (i : grid0.Coords) (k : Fin k0_t1_loop.trips) : Fin 4 → Fin 4 → Fin 4 → ℕ :=
  ![fun p => k0_off3 i k (BitVec.ofNat 32 (2 * p.val)), fun p => k0_off4 i k (BitVec.ofNat 32 (2 * p.val)), fun p => k0_off5 i k (BitVec.ofNat 32 (2 * p.val)), fun p => k0_off6 i k (BitVec.ofNat 32 (2 * p.val))]
theorem bOff_eq0 (i : grid0.Coords) (k : Fin k0_t1_loop.trips) (h p : Fin 4) : bOff0 i k h p = ![4 * 0 + h.val, delta i k + 2 * p.val, 0, 0] := by
  fin_cases h
  exacts [off_b0 i k p, off_b1 i k p, off_b2 i k p, off_b3 i k p]
theorem bOff_inb0 (i : grid0.Coords) (k : Fin k0_t1_loop.trips) (h p : Fin 4) : ∀ a, bOff0 i k h p a + S1x1x64x128.size a ≤ S32x14x64x128.size a := by
  fin_cases h
  exacts [k0_off3_inb i k p, k0_off4_inb i k p, k0_off5_inb i k p, k0_off6_inb i k p]

/-- Where group 1 loads its sixteen bias blocks. -/
def bOff1 (i : grid0.Coords) (k : Fin k0_t1_loop.trips) : Fin 4 → Fin 4 → Fin 4 → ℕ :=
  ![fun p => k0_off9 i k (BitVec.ofNat 32 (2 * p.val)), fun p => k0_off10 i k (BitVec.ofNat 32 (2 * p.val)), fun p => k0_off11 i k (BitVec.ofNat 32 (2 * p.val)), fun p => k0_off12 i k (BitVec.ofNat 32 (2 * p.val))]
theorem bOff_eq1 (i : grid0.Coords) (k : Fin k0_t1_loop.trips) (h p : Fin 4) : bOff1 i k h p = ![4 * 1 + h.val, delta i k + 2 * p.val, 0, 0] := by
  fin_cases h
  exacts [off_b4 i k p, off_b5 i k p, off_b6 i k p, off_b7 i k p]
theorem bOff_inb1 (i : grid0.Coords) (k : Fin k0_t1_loop.trips) (h p : Fin 4) : ∀ a, bOff1 i k h p a + S1x1x64x128.size a ≤ S32x14x64x128.size a := by
  fin_cases h
  exacts [k0_off9_inb i k p, k0_off10_inb i k p, k0_off11_inb i k p, k0_off12_inb i k p]

/-- Where group 2 loads its sixteen bias blocks. -/
def bOff2 (i : grid0.Coords) (k : Fin k0_t1_loop.trips) : Fin 4 → Fin 4 → Fin 4 → ℕ :=
  ![fun p => k0_off15 i k (BitVec.ofNat 32 (2 * p.val)), fun p => k0_off16 i k (BitVec.ofNat 32 (2 * p.val)), fun p => k0_off17 i k (BitVec.ofNat 32 (2 * p.val)), fun p => k0_off18 i k (BitVec.ofNat 32 (2 * p.val))]
theorem bOff_eq2 (i : grid0.Coords) (k : Fin k0_t1_loop.trips) (h p : Fin 4) : bOff2 i k h p = ![4 * 2 + h.val, delta i k + 2 * p.val, 0, 0] := by
  fin_cases h
  exacts [off_b8 i k p, off_b9 i k p, off_b10 i k p, off_b11 i k p]
theorem bOff_inb2 (i : grid0.Coords) (k : Fin k0_t1_loop.trips) (h p : Fin 4) : ∀ a, bOff2 i k h p a + S1x1x64x128.size a ≤ S32x14x64x128.size a := by
  fin_cases h
  exacts [k0_off15_inb i k p, k0_off16_inb i k p, k0_off17_inb i k p, k0_off18_inb i k p]

/-- Where group 3 loads its sixteen bias blocks. -/
def bOff3 (i : grid0.Coords) (k : Fin k0_t1_loop.trips) : Fin 4 → Fin 4 → Fin 4 → ℕ :=
  ![fun p => k0_off21 i k (BitVec.ofNat 32 (2 * p.val)), fun p => k0_off22 i k (BitVec.ofNat 32 (2 * p.val)), fun p => k0_off23 i k (BitVec.ofNat 32 (2 * p.val)), fun p => k0_off24 i k (BitVec.ofNat 32 (2 * p.val))]
theorem bOff_eq3 (i : grid0.Coords) (k : Fin k0_t1_loop.trips) (h p : Fin 4) : bOff3 i k h p = ![4 * 3 + h.val, delta i k + 2 * p.val, 0, 0] := by
  fin_cases h
  exacts [off_b12 i k p, off_b13 i k p, off_b14 i k p, off_b15 i k p]
theorem bOff_inb3 (i : grid0.Coords) (k : Fin k0_t1_loop.trips) (h p : Fin 4) : ∀ a, bOff3 i k h p a + S1x1x64x128.size a ≤ S32x14x64x128.size a := by
  fin_cases h
  exacts [k0_off21_inb i k p, k0_off22_inb i k p, k0_off23_inb i k p, k0_off24_inb i k p]

/-- Where group 4 loads its sixteen bias blocks. -/
def bOff4 (i : grid0.Coords) (k : Fin k0_t1_loop.trips) : Fin 4 → Fin 4 → Fin 4 → ℕ :=
  ![fun p => k0_off27 i k (BitVec.ofNat 32 (2 * p.val)), fun p => k0_off28 i k (BitVec.ofNat 32 (2 * p.val)), fun p => k0_off29 i k (BitVec.ofNat 32 (2 * p.val)), fun p => k0_off30 i k (BitVec.ofNat 32 (2 * p.val))]
theorem bOff_eq4 (i : grid0.Coords) (k : Fin k0_t1_loop.trips) (h p : Fin 4) : bOff4 i k h p = ![4 * 4 + h.val, delta i k + 2 * p.val, 0, 0] := by
  fin_cases h
  exacts [off_b16 i k p, off_b17 i k p, off_b18 i k p, off_b19 i k p]
theorem bOff_inb4 (i : grid0.Coords) (k : Fin k0_t1_loop.trips) (h p : Fin 4) : ∀ a, bOff4 i k h p a + S1x1x64x128.size a ≤ S32x14x64x128.size a := by
  fin_cases h
  exacts [k0_off27_inb i k p, k0_off28_inb i k p, k0_off29_inb i k p, k0_off30_inb i k p]

/-- Where group 5 loads its sixteen bias blocks. -/
def bOff5 (i : grid0.Coords) (k : Fin k0_t1_loop.trips) : Fin 4 → Fin 4 → Fin 4 → ℕ :=
  ![fun p => k0_off33 i k (BitVec.ofNat 32 (2 * p.val)), fun p => k0_off34 i k (BitVec.ofNat 32 (2 * p.val)), fun p => k0_off35 i k (BitVec.ofNat 32 (2 * p.val)), fun p => k0_off36 i k (BitVec.ofNat 32 (2 * p.val))]
theorem bOff_eq5 (i : grid0.Coords) (k : Fin k0_t1_loop.trips) (h p : Fin 4) : bOff5 i k h p = ![4 * 5 + h.val, delta i k + 2 * p.val, 0, 0] := by
  fin_cases h
  exacts [off_b20 i k p, off_b21 i k p, off_b22 i k p, off_b23 i k p]
theorem bOff_inb5 (i : grid0.Coords) (k : Fin k0_t1_loop.trips) (h p : Fin 4) : ∀ a, bOff5 i k h p a + S1x1x64x128.size a ≤ S32x14x64x128.size a := by
  fin_cases h
  exacts [k0_off33_inb i k p, k0_off34_inb i k p, k0_off35_inb i k p, k0_off36_inb i k p]

/-- Where group 6 loads its sixteen bias blocks. -/
def bOff6 (i : grid0.Coords) (k : Fin k0_t1_loop.trips) : Fin 4 → Fin 4 → Fin 4 → ℕ :=
  ![fun p => k0_off39 i k (BitVec.ofNat 32 (2 * p.val)), fun p => k0_off40 i k (BitVec.ofNat 32 (2 * p.val)), fun p => k0_off41 i k (BitVec.ofNat 32 (2 * p.val)), fun p => k0_off42 i k (BitVec.ofNat 32 (2 * p.val))]
theorem bOff_eq6 (i : grid0.Coords) (k : Fin k0_t1_loop.trips) (h p : Fin 4) : bOff6 i k h p = ![4 * 6 + h.val, delta i k + 2 * p.val, 0, 0] := by
  fin_cases h
  exacts [off_b24 i k p, off_b25 i k p, off_b26 i k p, off_b27 i k p]
theorem bOff_inb6 (i : grid0.Coords) (k : Fin k0_t1_loop.trips) (h p : Fin 4) : ∀ a, bOff6 i k h p a + S1x1x64x128.size a ≤ S32x14x64x128.size a := by
  fin_cases h
  exacts [k0_off39_inb i k p, k0_off40_inb i k p, k0_off41_inb i k p, k0_off42_inb i k p]

/-- Where group 7 loads its sixteen bias blocks. -/
def bOff7 (i : grid0.Coords) (k : Fin k0_t1_loop.trips) : Fin 4 → Fin 4 → Fin 4 → ℕ :=
  ![fun p => k0_off45 i k (BitVec.ofNat 32 (2 * p.val)), fun p => k0_off46 i k (BitVec.ofNat 32 (2 * p.val)), fun p => k0_off47 i k (BitVec.ofNat 32 (2 * p.val)), fun p => k0_off48 i k (BitVec.ofNat 32 (2 * p.val))]
theorem bOff_eq7 (i : grid0.Coords) (k : Fin k0_t1_loop.trips) (h p : Fin 4) : bOff7 i k h p = ![4 * 7 + h.val, delta i k + 2 * p.val, 0, 0] := by
  fin_cases h
  exacts [off_b28 i k p, off_b29 i k p, off_b30 i k p, off_b31 i k p]
theorem bOff_inb7 (i : grid0.Coords) (k : Fin k0_t1_loop.trips) (h p : Fin 4) : ∀ a, bOff7 i k h p a + S1x1x64x128.size a ≤ S32x14x64x128.size a := by
  fin_cases h
  exacts [k0_off45_inb i k p, k0_off46_inb i k p, k0_off47_inb i k p, k0_off48_inb i k p]

/-- The trip's stores, the last first, are those of the eight groups. -/
theorem trip_eq (𝒱 : Variants) (c : Dev nD) (bd : Option 𝒱.V) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S32x14x64x128 .f32) (harg9 : arg9.IsWhole) (arg10 : Memref sig .tc .vmem S1x1024x1024 .bf16) (harg10 : arg10.IsWhole) (arg11 : Memref sig .tc .vmem S1536x1024 .bf16) (harg11 : arg11.IsWhole) (arg12 : Memref sig .tc .vmem S1536x1024 .bf16) (harg12 : arg12.IsWhole) (arg1 : BitVec 32) (v30 : BitVec 32) (X_arg2 : BufTy.Contents (Elt Ideal) arg2.view.ty) (X_arg9 : BufTy.Contents (Elt Ideal) arg9.view.ty) (X_arg11 : BufTy.Contents (Elt Ideal) arg11.view.ty) (X_arg12 : BufTy.Contents (Elt Ideal) arg12.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg1 v30 X_arg2 X_arg9 X_arg11 X_arg12 k = [
      piece arg2 arg9 arg11 arg12 X_arg2 X_arg9 X_arg11 X_arg12 (k0_off43 k) (k0_off43_inb k) (k0_off44 i k) (k0_off44_inb i k) (bOff7 i k) (bOff_inb7 i k),
      piece arg2 arg9 arg11 arg12 X_arg2 X_arg9 X_arg11 X_arg12 (k0_off37 k) (k0_off37_inb k) (k0_off38 i k) (k0_off38_inb i k) (bOff6 i k) (bOff_inb6 i k),
      piece arg2 arg9 arg11 arg12 X_arg2 X_arg9 X_arg11 X_arg12 (k0_off31 k) (k0_off31_inb k) (k0_off32 i k) (k0_off32_inb i k) (bOff5 i k) (bOff_inb5 i k),
      piece arg2 arg9 arg11 arg12 X_arg2 X_arg9 X_arg11 X_arg12 (k0_off25 k) (k0_off25_inb k) (k0_off26 i k) (k0_off26_inb i k) (bOff4 i k) (bOff_inb4 i k),
      piece arg2 arg9 arg11 arg12 X_arg2 X_arg9 X_arg11 X_arg12 (k0_off19 k) (k0_off19_inb k) (k0_off20 i k) (k0_off20_inb i k) (bOff3 i k) (bOff_inb3 i k),
      piece arg2 arg9 arg11 arg12 X_arg2 X_arg9 X_arg11 X_arg12 (k0_off13 k) (k0_off13_inb k) (k0_off14 i k) (k0_off14_inb i k) (bOff2 i k) (bOff_inb2 i k),
      piece arg2 arg9 arg11 arg12 X_arg2 X_arg9 X_arg11 X_arg12 (k0_off7 k) (k0_off7_inb k) (k0_off8 i k) (k0_off8_inb i k) (bOff1 i k) (bOff_inb1 i k),
      piece arg2 arg9 arg11 arg12 X_arg2 X_arg9 X_arg11 X_arg12 (k0_off1 k) (k0_off1_inb k) (k0_off2 i k) (k0_off2_inb i k) (bOff0 i k) (bOff_inb0 i k)] := by
  sl_kernel_rfl

/-- The store of some group, at the row and lanes it belongs to. -/
def IsPiece (arg2 : Memref sig .tc .vmem S1x1024x1024 .bf16) (arg9 : Memref sig .tc .vmem S32x14x64x128 .f32)
    (arg11 arg12 : Memref sig .tc .vmem S1536x1024 .bf16) (X2 : BufTy.Contents (Elt Ideal) arg2.view.ty) (X9 : BufTy.Contents (Elt Ideal) arg9.view.ty)
    (X11 : BufTy.Contents (Elt Ideal) arg11.view.ty) (X12 : BufTy.Contents (Elt Ideal) arg12.view.ty)
    (i : grid0.Coords) (k : Fin k0_t1_loop.trips) (p : View.Piece (Elt Ideal) S1x1024x1024 .bf16) : Prop :=
  ∃ (g : Fin 8) (o : Fin 3 → ℕ) (ho : ∀ a, o a + S1x64x128.size a ≤ S1x1024x1024.size a)
    (u : Fin 2 → ℕ) (hu : ∀ a, u a + S512x128.size a ≤ S1536x1024.size a)
    (b : Fin 4 → Fin 4 → Fin 4 → ℕ) (hb : ∀ (h p : Fin 4), ∀ a, b h p a + S1x1x64x128.size a ≤ S32x14x64x128.size a),
    o = ![0, 64 * k.val, 128 * g.val] ∧ u = ![64 * win i k, 128 * g.val]
    ∧ (∀ h p : Fin 4, b h p = ![4 * g.val + h.val, delta i k + 2 * p.val, 0, 0])
    ∧ p = piece arg2 arg9 arg11 arg12 X2 X9 X11 X12 o ho u hu b hb

/-- Every store of the trip is the store of one of the eight groups. -/
theorem trip_pieces (𝒱 : Variants) (c : Dev nD) (bd : Option 𝒱.V) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S32x14x64x128 .f32) (harg9 : arg9.IsWhole) (arg10 : Memref sig .tc .vmem S1x1024x1024 .bf16) (harg10 : arg10.IsWhole) (arg11 : Memref sig .tc .vmem S1536x1024 .bf16) (harg11 : arg11.IsWhole) (arg12 : Memref sig .tc .vmem S1536x1024 .bf16) (harg12 : arg12.IsWhole) (arg1 : BitVec 32) (v30 : BitVec 32) (X_arg2 : BufTy.Contents (Elt Ideal) arg2.view.ty) (X_arg9 : BufTy.Contents (Elt Ideal) arg9.view.ty) (X_arg11 : BufTy.Contents (Elt Ideal) arg11.view.ty) (X_arg12 : BufTy.Contents (Elt Ideal) arg12.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg1 v30 X_arg2 X_arg9 X_arg11 X_arg12 k, IsPiece arg2 arg9 arg11 arg12 X_arg2 X_arg9 X_arg11 X_arg12 i k p := by
  rw [trip_eq]
  intro p hp
  simp only [List.mem_cons, List.not_mem_nil, or_false] at hp
  rcases hp with rfl | rfl | rfl | rfl | rfl | rfl | rfl | rfl
  · exact ⟨7, _, _, _, _, _, _, off_q7 k, off_k7 i k, bOff_eq7 i k, rfl⟩
  · exact ⟨6, _, _, _, _, _, _, off_q6 k, off_k6 i k, bOff_eq6 i k, rfl⟩
  · exact ⟨5, _, _, _, _, _, _, off_q5 k, off_k5 i k, bOff_eq5 i k, rfl⟩
  · exact ⟨4, _, _, _, _, _, _, off_q4 k, off_k4 i k, bOff_eq4 i k, rfl⟩
  · exact ⟨3, _, _, _, _, _, _, off_q3 k, off_k3 i k, bOff_eq3 i k, rfl⟩
  · exact ⟨2, _, _, _, _, _, _, off_q2 k, off_k2 i k, bOff_eq2 i k, rfl⟩
  · exact ⟨1, _, _, _, _, _, _, off_q1 k, off_k1 i k, bOff_eq1 i k, rfl⟩
  · exact ⟨0, _, _, _, _, _, _, off_q0 k, off_k0 i k, bOff_eq0 i k, rfl⟩

end Cert.KernelIdeal.Proved
end
-- ==== Proof.AttnScratch.lean ====
module

public import proofs.«01_k».proof.Proof.AttnGroup
public import Idealize.ShloMosaic.Lib.Pipeline.Value

/-! The buffer of keys (and of values) that a grid point assembles: four grid rows before its own, its own sixteen, and
four after. -/

@[expose] public section
set_option maxRecDepth 16384
noncomputable section
open Idealize Idealize.ShloMosaic
namespace Cert.KernelIdeal.Proved
open Cert.KernelIdeal Cert.KernelIdeal.Gen Cert.Attn

/-- The three blocks of rows one after another. -/
def stack (a : Vec Ideal S1x256x1024 .bf16) (b : Vec Ideal S1x1024x1024 .bf16) (d : Vec Ideal S1x256x1024 .bf16) (i : Fin 1536) (l : Fin 1024) : EReal :=
  if h : i.val < 256 then a (ix3 0 ⟨i.val, h⟩ l)
  else if h2 : i.val < 1280 then b (ix3 0 ⟨i.val - 256, by omega⟩ l)
  else d (ix3 0 ⟨i.val - 1280, by omega⟩ l)

/-- The first 256 rows are those of the first block. -/
theorem stack_fst {a b d} (i : Fin 1536) (l' : Fin 1024) (r : Fin 256) (l : Fin 1024) (h : i.val = r.val) (hl : l'.val = l.val) :
    stack a b d i l' = a (ix3 0 r l) := by
  obtain rfl : l' = l := Fin.ext hl
  unfold stack
  rw [dif_pos (by omega)]
  exact congrArg (fun r => a (ix3 0 r l')) (Fin.ext h)

/-- The next 1024 rows are those of the second block. -/
theorem stack_snd {a b d} (i : Fin 1536) (l' : Fin 1024) (r : Fin 1024) (l : Fin 1024) (h : i.val = 256 + r.val) (hl : l'.val = l.val) :
    stack a b d i l' = b (ix3 0 r l) := by
  obtain rfl : l' = l := Fin.ext hl
  unfold stack
  rw [dif_neg (by omega), dif_pos (by omega)]
  exact congrArg (fun r => b (ix3 0 r l')) (Fin.ext (by simp only; omega))

/-- The last 256 rows are those of the third block. -/
theorem stack_trd {a b d} (i : Fin 1536) (l' : Fin 1024) (r : Fin 256) (l : Fin 1024) (h : i.val = 1280 + r.val) (hl : l'.val = l.val) :
    stack a b d i l' = d (ix3 0 r l) := by
  obtain rfl : l' = l := Fin.ext hl
  unfold stack
  rw [dif_neg (by omega), dif_neg (by omega)]
  exact congrArg (fun r => d (ix3 0 r l')) (Fin.ext (by simp only; omega))

/-- The three stores into the buffer leave the three blocks one after another. -/
theorem canon_stack (a : Vec Ideal S1x256x1024 .bf16) (b : Vec Ideal S1x1024x1024 .bf16) (d : Vec Ideal S1x256x1024 .bf16)
    (pa pd : FVec Ideal S256x1024 .bf16) (pb : FVec Ideal S1024x1024 .bf16)
    (ha : ∀ r l, pa (ix2 r l) = a (ix3 0 r l)) (hb : ∀ r l, pb (ix2 r l) = b (ix3 0 r l)) (hd : ∀ r l, pd (ix2 r l) = d (ix3 0 r l))
    (i1 i2 i3) (y : S1536x1024.Idx) :
    View.canon (Val := Elt Ideal) (e := .bf16) (s := S1536x1024) [⟨Rect.unit (s := S1536x1024) ![1280, 0] S256x1024.size i1, pd⟩, ⟨Rect.unit (s := S1536x1024) ![256, 0] S1024x1024.size i2, pb⟩,
      ⟨Rect.unit (s := S1536x1024) ![0, 0] S256x1024.size i3, pa⟩] y = stack a b d (y 0) (y 1) := by
  refine View.canon_apply_of_pieces (Val := Elt Ideal) (e := .bf16) (S := S1536x1024) (fun y => stack a b d (y 0) (y 1)) _ ?_ y ?_
  · intro p hp
    simp only [List.mem_cons, List.not_mem_nil, or_false] at hp
    rcases hp with rfl | rfl | rfl <;> intro x
    · revert x
      intro (x : S256x1024.Idx)
      idx_vars x
      exact (hd x0 x1).trans (stack_trd _ _ _ _ (by blk_simp; try simp) (by blk_simp; try simp)).symm
    · revert x
      intro (x : S1024x1024.Idx)
      idx_vars x
      exact (hb x0 x1).trans (stack_snd _ _ _ _ (by blk_simp; try simp) (by blk_simp; try simp)).symm
    · revert x
      intro (x : S256x1024.Idx)
      idx_vars x
      exact (ha x0 x1).trans (stack_fst _ _ _ _ (by blk_simp; try simp) (by blk_simp; try simp)).symm
  · revert y
    intro (y : S1536x1024.Idx)
    idx_vars y
    by_cases h : y0.val < 256
    · refine ⟨_, .tail _ (.tail _ (.head _)), (Rect.mem_set_unit (inb := i3)).mpr (?_ : ∀ a, _)⟩
      intro a
      fin_cases a <;> simp <;> omega
    · by_cases h2 : y0.val < 1280
      · refine ⟨_, .tail _ (.head _), (Rect.mem_set_unit (inb := i2)).mpr (?_ : ∀ a, _)⟩
        intro a
        fin_cases a <;> simp <;> omega
      · refine ⟨_, .head _, (Rect.mem_set_unit (inb := i1)).mpr (?_ : ∀ a, _)⟩
        intro a
        fin_cases a <;> simp <;> omega

end Cert.KernelIdeal.Proved
end
-- ==== Proof.AttnBlock.lean ====
module

public import proofs.«01_k».proof.Proof.AttnTrip
public import proofs.«01_k».proof.Proof.AttnScratch
public import proofs.«01_k».proof.Proof.Gen.KernelIdeal.Value

/-! What one grid point stores: the attention of its sixteen grid rows, from its queries, the assembled keys and values,
and the bias table. -/

@[expose] public section
set_option maxRecDepth 16384
noncomputable section
open Idealize Idealize.ShloMosaic Idealize.ShloMosaic.TcCoe
open scoped BigOperators
namespace Cert.KernelIdeal.Proved
open Cert.KernelIdeal Cert.KernelIdeal.Gen Cert.Attn

/-- The kernel's scale, `1/√32` as a float. -/
def scale : EReal := Ideal.ofBits FTy.f32 0x3E3504F3#32

/-- A sum over 128 lanes of which a mask keeps head `h` is the sum over that head's 32 lanes. -/
theorem sum_masked (f g : Fin 128 → EReal) (h : Fin 4) :
    ∑ l : Fin 128, (if l.val / 32 = h.val then f l else 0) * g l = ∑ d : Fin 32, f ⟨h.val * 32 + d.val, by omega⟩ * g ⟨h.val * 32 + d.val, by omega⟩ := by
  simp only [ite_mul, zero_mul]
  rw [← Finset.sum_filter]
  refine Finset.sum_bij' (fun l _ => (⟨l.val % 32, by omega⟩ : Fin 32)) (fun d _ => ⟨h.val * 32 + d.val, by omega⟩) ?_ ?_ ?_ ?_ ?_
  · intro l _; exact Finset.mem_univ _
  · intro d _; exact Finset.mem_filter.mpr ⟨Finset.mem_univ _, by simp only; omega⟩
  · intro l hl; have e := (Finset.mem_filter.mp hl).2; exact Fin.ext (by simp only; omega)
  · intro d _; exact Fin.ext (by simp only; omega)
  · intro l hl
    have e := (Finset.mem_filter.mp hl).2
    have e' : (⟨h.val * 32 + l.val % 32, by omega⟩ : Fin 128) = l := Fin.ext (by simp only; omega)
    simp only [e']

/-- One group's block at row `r` and lane `l`. -/
theorem group_apply (q : Vec Ideal S1x64x128 .bf16) (kw vw : Vec Ideal S512x128 .bf16) (b : Fin 4 → Fin 4 → Vec Ideal S1x1x64x128 .f32)
    (r : Fin 64) (l : Fin 128) :
    group q kw vw b (ix3 0 r l)
      = soft (fun w => (∑ d : Fin 32, q (ix3 0 r ⟨l.val / 32 * 32 + d.val, by omega⟩) * kw (ix2 w ⟨l.val / 32 * 32 + d.val, by omega⟩)) * scale
          + b ⟨l.val / 32, by omega⟩ ⟨w.val / 128, by omega⟩ (ix4 0 0 r ⟨w.val % 128, by omega⟩)) (fun w => vw (ix2 w l)) := by
  unfold group
  refine (pay7_apply vw _ (fun h => k0_pay4 (F := Ideal) (b h 0) (b h 1) (b h 2) (b h 3)) r l).trans ?_
  refine congrArg (fun s => soft s (fun w => vw (ix2 w l))) (funext fun w => ?_)
  rw [pay4_apply (fun p => b _ p)]
  refine congrArg (fun x => x * scale + b ⟨l.val / 32, by omega⟩ ⟨w.val / 128, by omega⟩ (ix4 0 0 r ⟨w.val % 128, by omega⟩)) ?_
  refine (pay1_apply q kw ⟨l.val / 32, by omega⟩ r w).trans ?_
  exact sum_masked (fun ln => q (ix3 0 r ln)) (fun ln => kw (ix2 w ln)) ⟨l.val / 32, by omega⟩

theorem trips_eq : k0_t1_loop.trips = 16 := by decide

theorem win_le : ∀ (i : grid0.Coords) (k : Fin k0_t1_loop.trips), win i k ≤ 16 := by decide +kernel

theorem delta_le : ∀ (i : grid0.Coords) (k : Fin k0_t1_loop.trips), delta i k ≤ 7 := by decide +kernel

/-- The trip that computes token `t` of the block. -/
def trip (t : Fin 1024) : Fin k0_t1_loop.trips := ⟨t.val / 64, by rw [trips_eq]; omega⟩

/-- Row `w` of the window of token `t`, in the assembled buffer. -/
def winRow (i : grid0.Coords) (t : Fin 1024) (w : Fin 512) : Fin 1536 := ⟨64 * win i (trip t) + w.val, by have := win_le i (trip t); omega⟩

/-- The bias of head `h` for window position `w`, as the table holds it. -/
def biasAt (x7 : Vec Ideal S32x14x64x128 .f32) (i : grid0.Coords) (t : Fin 1024) (h : Fin 32) (w : Fin 512) : EReal :=
  x7 (ix4 h ⟨delta i (trip t) + 2 * (w.val / 128), by have := delta_le i (trip t); omega⟩ ⟨t.val % 64, by omega⟩ ⟨w.val % 128, by omega⟩)

/-- The attention at token `t` and lane `l` of the block. -/
def blockAt (x0 : Vec Ideal S1x1024x1024 .bf16) (kb vb : Fin 1536 → Fin 1024 → EReal) (x7 : Vec Ideal S32x14x64x128 .f32) (i : grid0.Coords)
    (t l : Fin 1024) : EReal :=
  soft (fun w => (∑ d : Fin 32, x0 (ix3 0 t ⟨l.val / 32 * 32 + d.val, by omega⟩) * kb (winRow i t w) ⟨l.val / 32 * 32 + d.val, by omega⟩) * scale
    + biasAt x7 i t ⟨l.val / 32, by omega⟩ w) (fun w => vb (winRow i t w) l)

/-- The query block that group `g` of trip `k` loads. -/
theorem ld_q (X : Vec Ideal S1x1024x1024 .bf16) (k : ℕ) (g : Fin 8) (ho) (r : Fin 64) (l : Fin 128) (T L : Fin 1024)
    (hT : T.val = 64 * k + r.val) (hL : L.val = 128 * g.val + l.val) :
    View.ld X (Rect.unit (s := S1x1024x1024) ![0, 64 * k, 128 * g.val] S1x64x128.size ho) (ix3 0 r l) = X (ix3 0 T L) :=
  View.ld_unit_apply_of _ _ _ _ _ _ fun a => by
    fin_cases a
    exacts [rfl, hT, hL]

/-- The rows of the assembled buffer that group `g` of trip `k` loads. -/
theorem ld_kv (X : Vec Ideal S1536x1024 .bf16) (u : ℕ) (g : Fin 8) (hu) (w : Fin 512) (l : Fin 128) (T : Fin 1536) (L : Fin 1024)
    (hT : T.val = 64 * u + w.val) (hL : L.val = 128 * g.val + l.val) :
    View.ld X (Rect.unit (s := S1536x1024) ![64 * u, 128 * g.val] S512x128.size hu) (ix2 w l) = X (ix2 T L) :=
  View.ld_unit_apply_of _ _ _ _ _ _ fun a => by
    fin_cases a
    exacts [hT, hL]

/-- The bias block of head `h` and table row `e`. -/
theorem ld_b (X : Vec Ideal S32x14x64x128 .f32) (h e : ℕ) (hb) (r : Fin 64) (l : Fin 128) (H : Fin 32) (E : Fin 14)
    (hH : H.val = h) (hE : E.val = e) :
    View.ld X (Rect.unit (s := S32x14x64x128) ![h, e, 0, 0] S1x1x64x128.size hb) (ix4 0 0 r l) = X (ix4 H E r l) :=
  View.ld_unit_apply_of _ _ _ _ _ _ fun a => by
    fin_cases a
    exacts [hH, hE, (Nat.zero_add _).symm, (Nat.zero_add _).symm]

/-- Group `g` of trip `k`, at row `r` and lane `l` of its block. -/
theorem group_at (q0 : Vec Ideal S1x1024x1024 .bf16) (K V : Vec Ideal S1536x1024 .bf16) (x7 : Vec Ideal S32x14x64x128 .f32)
    (i : grid0.Coords) (k : Fin k0_t1_loop.trips) (g : Fin 8) (ho) (hu) (hb : ∀ h p : Fin 4, _) (r : Fin 64) (l : Fin 128) (T L : Fin 1024)
    (hT : T.val = 64 * k.val + r.val) (hL : L.val = 128 * g.val + l.val) :
    group (View.ld q0 (Rect.unit (s := S1x1024x1024) ![0, 64 * k.val, 128 * g.val] S1x64x128.size ho))
        (View.ld K (Rect.unit (s := S1536x1024) ![64 * win i k, 128 * g.val] S512x128.size hu))
        (View.ld V (Rect.unit (s := S1536x1024) ![64 * win i k, 128 * g.val] S512x128.size hu))
        (fun h p => View.ld x7 (Rect.unit (s := S32x14x64x128) ![4 * g.val + h.val, delta i k + 2 * p.val, 0, 0] S1x1x64x128.size (hb h p))) (ix3 0 r l)
      = blockAt q0 (fun i l => K (ix2 i l)) (fun i l => V (ix2 i l)) x7 i T L := by
  have ht : trip T = k := Fin.ext (by simp only [trip]; omega)
  refine (group_apply _ _ _ _ r l).trans ?_
  unfold blockAt biasAt
  congr 1
  · funext w
    have e1 : ∀ d : Fin 32, _ := fun d => ld_q q0 k.val g ho r ⟨l.val / 32 * 32 + d.val, by omega⟩ T ⟨L.val / 32 * 32 + d.val, by omega⟩ hT (by simp only; omega)
    have e2 : ∀ d : Fin 32, _ := fun d => ld_kv K (win i k) g hu w ⟨l.val / 32 * 32 + d.val, by omega⟩ (winRow i T w) ⟨L.val / 32 * 32 + d.val, by omega⟩ (by simp only [winRow, ht]) (by simp only; omega)
    have e3 := ld_b x7 (4 * g.val + l.val / 32) (delta i k + 2 * (w.val / 128)) (hb ⟨l.val / 32, by omega⟩ ⟨w.val / 128, by omega⟩) r ⟨w.val % 128, by omega⟩
      ⟨L.val / 32, by omega⟩ ⟨delta i (trip T) + 2 * (w.val / 128), by have := delta_le i (trip T); omega⟩ (by simp only; omega) (by simp only [ht])
    have e4 : (⟨T.val % 64, by omega⟩ : Fin 64) = r := Fin.ext (by simp only; omega)
    simp only [e1, e2, e4]
    exact congrArg _ e3
  · funext w
    exact ld_kv V (win i k) g hu w l (winRow i T w) L (by simp only [winRow, ht]) hL

/-- What a group's store holds is the attention at the tokens and lanes where it goes. -/
theorem piece_apply (arg2 : Memref sig .tc .vmem S1x1024x1024 .bf16) (arg9 : Memref sig .tc .vmem S32x14x64x128 .f32)
    (arg11 arg12 : Memref sig .tc .vmem S1536x1024 .bf16) (X2 : BufTy.Contents (Elt Ideal) arg2.view.ty) (X9 : BufTy.Contents (Elt Ideal) arg9.view.ty)
    (X11 : BufTy.Contents (Elt Ideal) arg11.view.ty) (X12 : BufTy.Contents (Elt Ideal) arg12.view.ty)
    (q0 : Vec Ideal S1x1024x1024 .bf16) (K V : Vec Ideal S1536x1024 .bf16) (x7 : Vec Ideal S32x14x64x128 .f32)
    (h2 : arg2.view.read (Elt Ideal) X2 = q0) (h9 : arg9.view.read (Elt Ideal) X9 = x7)
    (h11 : arg11.view.read (Elt Ideal) X11 = K) (h12 : arg12.view.read (Elt Ideal) X12 = V)
    (i : grid0.Coords) (k : Fin k0_t1_loop.trips) (p : View.Piece (Elt Ideal) S1x1024x1024 .bf16)
    (hp : IsPiece arg2 arg9 arg11 arg12 X2 X9 X11 X12 i k p) (x : p.1.shape.Idx) :
    p.2 x = blockAt q0 (fun i l => K (ix2 i l)) (fun i l => V (ix2 i l)) x7 i (p.1.emb x 1) (p.1.emb x 2) := by
  obtain ⟨g, o, ho, u, hu, b, hb, e1, e2, e3, rfl⟩ := hp
  obtain rfl : b = fun h p => ![4 * g.val + h.val, delta i k + 2 * p.val, 0, 0] := funext fun h => funext fun p => e3 h p
  subst e1 e2
  have hk : k.val < 16 := lt_of_lt_of_eq k.isLt trips_eq
  revert x
  intro (x : S1x64x128.Idx)
  idx_vars x
  obtain rfl : x0 = 0 := Subsingleton.elim _ _
  have hT : ((Rect.unit (s := S1x1024x1024) ![0, 64 * k.val, 128 * g.val] S1x64x128.size ho).emb (ix3 0 x1 x2) 1 : Fin 1024) = (⟨64 * k.val + x1.val, by omega⟩ : Fin 1024) :=
    Fin.ext (by blk_simp; try simp)
  have hL : ((Rect.unit (s := S1x1024x1024) ![0, 64 * k.val, 128 * g.val] S1x64x128.size ho).emb (ix3 0 x1 x2) 2 : Fin 1024) = (⟨128 * g.val + x2.val, by omega⟩ : Fin 1024) :=
    Fin.ext (by blk_simp; try simp)
  show _ = blockAt q0 (fun i l => K (ix2 i l)) (fun i l => V (ix2 i l)) x7 i ((Rect.unit (s := S1x1024x1024) ![0, 64 * k.val, 128 * g.val] S1x64x128.size ho).emb (ix3 0 x1 x2) 1)
    ((Rect.unit (s := S1x1024x1024) ![0, 64 * k.val, 128 * g.val] S1x64x128.size ho).emb (ix3 0 x1 x2) 2)
  rw [hT, hL]
  subst h2 h9 h11 h12
  exact group_at _ _ _ _ i k g ho hu hb x1 x2 _ _ rfl rfl

end Cert.KernelIdeal.Proved
end
-- ==== Proof.AttnOut.lean ====
module

public import proofs.«01_k».proof.Proof.AttnBlock

/-! What a grid point leaves in its output block, from its input blocks. -/

@[expose] public section
set_option maxRecDepth 16384
noncomputable section
open Idealize Idealize.ShloMosaic Idealize.ShloMosaic.TcCoe
open scoped BigOperators
namespace Cert.KernelIdeal.Proved
open Cert.KernelIdeal Cert.KernelIdeal.Gen Cert.Attn

theorem pay85_apply (x : Vec Ideal S1x256x1024 .bf16) (r : Fin 256) (l : Fin 1024) : k0_pay85 (F := Ideal) x (ix2 r l) = x (ix3 0 r l) := by
  pointwise [k0_pay85]

theorem pay86_apply (x : Vec Ideal S1x1024x1024 .bf16) (r : Fin 1024) (l : Fin 1024) : k0_pay86 (F := Ideal) x (ix2 r l) = x (ix3 0 r l) := by
  pointwise [k0_pay86]

theorem pay87_apply (x : Vec Ideal S1x256x1024 .bf16) (r : Fin 256) (l : Fin 1024) : k0_pay87 (F := Ideal) x (ix2 r l) = x (ix3 0 r l) := by
  pointwise [k0_pay87]

theorem pay88_apply (x : Vec Ideal S1x256x1024 .bf16) (r : Fin 256) (l : Fin 1024) : k0_pay88 (F := Ideal) x (ix2 r l) = x (ix3 0 r l) := by
  pointwise [k0_pay88]

theorem pay89_apply (x : Vec Ideal S1x1024x1024 .bf16) (r : Fin 1024) (l : Fin 1024) : k0_pay89 (F := Ideal) x (ix2 r l) = x (ix3 0 r l) := by
  pointwise [k0_pay89]

theorem pay90_apply (x : Vec Ideal S1x256x1024 .bf16) (r : Fin 256) (l : Fin 1024) : k0_pay90 (F := Ideal) x (ix2 r l) = x (ix3 0 r l) := by
  pointwise [k0_pay90]

/-- Every store of the first `n` trips is the store of some group of some trip. -/
theorem loop_pieces (𝒱 : Variants) (c : Dev nD) (bd : Option 𝒱.V) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S32x14x64x128 .f32) (harg9 : arg9.IsWhole) (arg10 : Memref sig .tc .vmem S1x1024x1024 .bf16) (harg10 : arg10.IsWhole) (arg11 : Memref sig .tc .vmem S1536x1024 .bf16) (harg11 : arg11.IsWhole) (arg12 : Memref sig .tc .vmem S1536x1024 .bf16) (harg12 : arg12.IsWhole) (arg1 : BitVec 32) (v30 : BitVec 32) (X_arg2 : BufTy.Contents (Elt Ideal) arg2.view.ty) (X_arg9 : BufTy.Contents (Elt Ideal) arg9.view.ty) (X_arg11 : BufTy.Contents (Elt Ideal) arg11.view.ty) (X_arg12 : BufTy.Contents (Elt Ideal) arg12.view.ty) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg1 v30 X_arg2 X_arg9 X_arg11 X_arg12 n, ∃ k, IsPiece arg2 arg9 arg11 arg12 X_arg2 X_arg9 X_arg11 X_arg12 i k p := by
  induction n with
  | zero => intro p hp; exact absurd hp List.not_mem_nil
  | succ n ih =>
    intro p hp
    rw [show n + 1 = (⟨n, hn⟩ : Fin k0_t1_loop.trips).val + 1 from rfl, pb_k0_t1_succ] at hp
    rcases List.mem_append.mp hp with h | h
    · exact ⟨_, trip_pieces 𝒱 c bd i arg2 harg2 arg3 harg3 arg4 harg4 arg5 harg5 arg6 harg6 arg7 harg7 arg8 harg8 arg9 harg9 arg10 harg10 arg11 harg11 arg12 harg12 arg1 v30 X_arg2 X_arg9 X_arg11 X_arg12 ⟨n, hn⟩ p h⟩
    · exact ih (Nat.le_of_succ_le hn) p h

/-- The contents of the assembled buffer read through its view. -/
theorem read_stack (arg : Memref sig .tc .vmem S1536x1024 .bf16) (a : Vec Ideal S1x256x1024 .bf16) (b : Vec Ideal S1x1024x1024 .bf16) (d : Vec Ideal S1x256x1024 .bf16)
    (pa pd : FVec Ideal S256x1024 .bf16) (pb : FVec Ideal S1024x1024 .bf16)
    (ha : ∀ r l, pa (ix2 r l) = a (ix3 0 r l)) (hb : ∀ r l, pb (ix2 r l) = b (ix3 0 r l)) (hd : ∀ r l, pd (ix2 r l) = d (ix3 0 r l)) (i1 i2 i3) :
    arg.view.read (Elt Ideal) (arg.view.writes (Elt Ideal) arg.view.junk [⟨Rect.unit (s := S1536x1024) ![1280, 0] S256x1024.size i1, pd⟩,
      ⟨Rect.unit (s := S1536x1024) ![256, 0] S1024x1024.size i2, pb⟩, ⟨Rect.unit (s := S1536x1024) ![0, 0] S256x1024.size i3, pa⟩])
      = fun y => stack a b d (y 0) (y 1) := by
  rw [View.read_writes_junk_eq_canon]
  exact funext fun y => canon_stack a b d pa pd pb ha hb hd i1 i2 i3 y

theorem zero3 : (![0, 0, 0] : Fin 3 → ℕ) = fun _ => 0 := funext fun a => by fin_cases a <;> rfl

/-- What the point leaves at token `t` and lane `l` of its block. -/
theorem out_apply  (c : Dev nD) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S32x14x64x128 .f32) (harg9 : arg9.IsWhole) (arg10 : Memref sig .tc .vmem S1x1024x1024 .bf16) (harg10 : arg10.IsWhole) (arg11 : Memref sig .tc .vmem S1536x1024 .bf16) (harg11 : arg11.IsWhole) (arg12 : Memref sig .tc .vmem S1536x1024 .bf16) (harg12 : arg12.IsWhole)
    (x0 : Vec Ideal S1x1024x1024 .bf16) (x1 : Vec Ideal S1x256x1024 .bf16) (x2 : Vec Ideal S1x1024x1024 .bf16) (x3 : Vec Ideal S1x256x1024 .bf16) (x4 : Vec Ideal S1x256x1024 .bf16) (x5 : Vec Ideal S1x1024x1024 .bf16) (x6 : Vec Ideal S1x256x1024 .bf16) (x7 : Vec Ideal S32x14x64x128 .f32) (t l : Fin 1024) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix3 0 t l) = blockAt x0 (stack x1 x2 x3) (stack x4 x5 x6) x7 i t l := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7)]
  have hc := cover0_A_8 c i arg2 harg2 arg3 harg3 arg4 harg4 arg5 harg5 arg6 harg6 arg7 harg7 arg8 harg8 arg9 harg9 arg10 harg10 arg11 harg11 arg12 harg12 x0 x1 x2 x3 x4 x5 x6 x7 (ix3 0 t l)
  revert hc
  unfold kernelRun0_A
  dsimp only
  sl_unfold_words
  intro hc
  refine (View.canon_apply_of_pieces (Val := Elt Ideal) (e := .bf16) (S := S1x1024x1024)
    (fun y => blockAt x0 (stack x1 x2 x3) (stack x4 x5 x6) x7 i (y 1) (y 2)) _ ?_ _ hc)
  intro p hp x
  obtain ⟨k, hk⟩ := loop_pieces _ _ _ _ _ _ _ _ _ _ _ _ _ _ _ _ _ _ _ _ _ _ _ _ _ _ _ _ _ _ _ _ _ (by decide) p hp
  refine (piece_apply arg2 arg9 arg11 arg12 _ _ _ _ x0 _ _ x7 (harg2.read_unread _) (harg9.read_unread _)
    (read_stack arg11 x1 x2 x3 _ _ _ ?_ ?_ ?_ _ _ _) (read_stack arg12 x4 x5 x6 _ _ _ ?_ ?_ ?_ _ _ _) i k p hk x)
  · intro r l; rw [pay85_apply, View.readAt_eq_ld, harg3.read_unread, View.ld_unit_zero (S := S1x256x1024) zero3]
  · intro r l; rw [pay86_apply, View.readAt_eq_ld, harg4.read_unread, View.ld_unit_zero (S := S1x1024x1024) zero3]
  · intro r l; rw [pay87_apply, View.readAt_eq_ld, harg5.read_unread, View.ld_unit_zero (S := S1x256x1024) zero3]
  · intro r l; rw [pay88_apply, View.readAt_eq_ld, harg6.read_unread, View.ld_unit_zero (S := S1x256x1024) zero3]
  · intro r l; rw [pay89_apply, View.readAt_eq_ld, harg7.read_unread, View.ld_unit_zero (S := S1x1024x1024) zero3]
  · intro r l; rw [pay90_apply, View.readAt_eq_ld, harg8.read_unread, View.ld_unit_zero (S := S1x256x1024) zero3]

end Cert.KernelIdeal.Proved
end
-- ==== Proof.AttnTable.lean ====
module

public import proofs.«01_k».proof.Proof.AttnOut

/-! The bias table that the attention's host code computes: the relative bias where a key column belongs to a query column's
window, minus infinity elsewhere. -/

@[expose] public section
set_option maxRecDepth 16384
noncomputable section
open Idealize Idealize.ShloMosaic Idealize.ShloMosaic.TcCoe
open scoped BigOperators
namespace Cert.KernelIdeal.Proved
open Cert.KernelIdeal Cert.KernelIdeal.Gen

/-- An operand axis of a gather that no start index moves reads the result's coordinate on its offset axis. -/
theorem gather_offset {s si t : Shape} {w : Nat} (d : GatherDims s si t) (j : t.Idx) (idx : IVec si w) (a : Fin s.rank) (k : Fin t.rank)
    (hs : a ∉ d.startIndexMap) (hb : a ∉ d.operandBatchingDims) (hk : a ∈ d.sKept) (ho : d.offsetDims[d.sKept.idxOf a]? = some k) :
    d.start j idx a + d.batchCoord j a + d.offCoord j a = (j k).val := by
  rw [d.batchCoord_eq_zero _ _ hb]
  unfold GatherDims.start GatherDims.offCoord
  rw [dif_neg hs, dif_pos hk]
  obtain ⟨h1, h2⟩ := List.getElem?_eq_some_iff.1 ho
  subst h2
  simp

/-- An operand axis of a gather that a start index moves and that no offset axis reads. -/
theorem gather_start {s si t : Shape} {w : Nat} (d : GatherDims s si t) (j : t.Idx) (idx : IVec si w) (a : Fin s.rank) (i : si.Idx)
    (hs : a ∈ d.startIndexMap) (hb : a ∉ d.operandBatchingDims) (hk : a ∉ d.sKept)
    (hi : d.siIdx j ⟨d.startIndexMap.idxOf a, List.idxOf_lt_length_iff.2 hs⟩ = i) :
    d.start j idx a + d.batchCoord j a + d.offCoord j a = min (idx i).toInt.toNat (s.size a - d.sliceSizes a) := by
  rw [d.batchCoord_eq_zero _ _ hb, d.offCoord_eq_zero _ _ hk]
  unfold GatherDims.start
  rw [dif_pos hs, hi]
  simp

/-- The gather of bias columns, read at an index. -/
theorem gather_bias (x : S32x15x31.Idx → EReal) (idx : IVec S64x64x1 32) (h : Fin 32) (e : Fin 15) (q u : Fin 64) :
    Host.gather gather_S32x15x31_S64x64x1_S32x15x64x64_01_2_n_n_2_2_32151 x idx (ix4 h e q u)
      = x (ix3 h e ⟨min (idx (ix3 q u 0)).toInt.toNat 30, by omega⟩) := by
  unfold Host.gather
  refine congrArg x (funext fun a => Fin.ext ?_)
  match a with
  | ⟨0, _⟩ => exact gather_offset gather_S32x15x31_S64x64x1_S32x15x64x64_01_2_n_n_2_2_32151 _ _ 0 0 (by decide) (by decide) (by decide) rfl
  | ⟨1, _⟩ => exact gather_offset gather_S32x15x31_S64x64x1_S32x15x64x64_01_2_n_n_2_2_32151 _ _ 1 1 (by decide) (by decide) (by decide) rfl
  | ⟨2, _⟩ =>
    refine gather_start gather_S32x15x31_S64x64x1_S32x15x64x64_01_2_n_n_2_2_32151 _ _ 2 (ix3 q u 0) (by decide) (by decide) (by decide) (funext fun b => Fin.ext ?_)
    match b with
    | ⟨0, _⟩ => rfl
    | ⟨1, _⟩ => rfl
    | ⟨2, _⟩ => rfl

variable (m : (ℓ : Loc nD τ sig) → Buf (Elt Ideal) ℓ) (c : Dev nD)

/-- The first key column of every query column's window. -/
def colStart : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Whether a key column belongs to a query column's window. -/
def colOk : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- The bias column of a query column and a key column, before it is wrapped. -/
def colDist : IVec S64x64 32 :=
  subi (addi
    (minsi (broadcastInDim S64x64 ![] bcast_S_S64x64 (constantI S_ 32 15#32))
      (maxsi (broadcastInDim S64x64 ![] bcast_S_S64x64 (constantI S_ 32 4294967281#32))
        (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))))
    (broadcastInDim S64x64 ![] bcast_S_S64x64 (constantI S_ 32 16#32)))
    (broadcastInDim S64x64 ![] bcast_S_S64x64 (constantI S_ 32 1#32))

/-- The bias column of a query column and a key column. -/
def colIdx : IVec S64x64 32 :=
  select (cmpi .slt colDist (broadcastInDim S64x64 ![] bcast_S_S64x64 (constantI S_ 32 0#32)))
    (addi colDist (broadcastInDim S64x64 ![] bcast_S_S64x64 (constantI S_ 32 31#32))) colDist

/-- The table for every bias row. -/
def full (x : S32x15x31.Idx → EReal) : S32x15x64x64.Idx → EReal :=
  select (broadcastInDim S32x15x64x64 ![0, 1, 2, 3] bcast_S1x1x64x64_S32x15x64x64_0_1_2_3
      (broadcastInDim S1x1x64x64 ![2, 3] bcast_S64x64_S1x1x64x64_2_3 colOk))
    (Host.gather gather_S32x15x31_S64x64x1_S32x15x64x64_01_2_n_n_2_2_32151 x (broadcastInDim S64x64x1 ![0, 1] bcast_S64x64_S64x64x1_0_1 colIdx))
    (broadcastInDim S32x15x64x64 ![] bcast_S_S32x15x64x64 (constant (F := Ideal) S_ .f32 0xFF800000#32))

/-- The table with two neighbouring bias rows side by side. -/
def table (x : S32x15x31.Idx → EReal) : S32x14x64x128.Idx → EReal :=
  concatenate S32x14x64x128 3 [⟨S32x14x64x64, extractStridedSlice S32x14x64x64 ![0, 0, 0, 0] (full x) slices_S32x15x64x64_S32x14x64x64_0_0_0_0⟩,
    ⟨S32x14x64x64, extractStridedSlice S32x14x64x64 ![0, 1, 0, 0] (full x) slices_S32x15x64x64_S32x14x64x64_0_1_0_0⟩] concatenates_S32x14x64x64_S32x14x64x64_S32x14x64x128_d3

/-- The host code leaves the table in the kernel's last operand. -/
theorem table_eq : V m c main_v39 = table (m ((c : Thread nD τ).loc main_arg3)) := by
  sl_kernel_rfl

/-- Which key columns belong to a query column's window, and which bias column is theirs. -/
theorem col_facts : ∀ q u : Fin 64,
    (colOk (ix2 q u) = 1#1 ↔ min (q.val - 8) 48 ≤ u.val ∧ u.val < min (q.val - 8) 48 + 16)
      ∧ min (colIdx (ix2 q u)).toInt.toNat 30 = min (u.val + 15 - q.val) 30 := by
  decide +kernel

/-- Whether key column `u` belongs to the window of query column `q`. -/
def Ok (q u : Nat) : Prop := min (q - 8) 48 ≤ u ∧ u < min (q - 8) 48 + 16

instance (q u : Nat) : Decidable (Ok q u) := by unfold Ok; infer_instance

/-- The bias of head `h` at bias row `e` for query column `q` and key column `u`, minus infinity outside the window. -/
def bias (x : S32x15x31.Idx → EReal) (h : Fin 32) (e : Fin 15) (q u : Fin 64) : EReal :=
  if Ok q.val u.val then x (ix3 h e ⟨min (u.val + 15 - q.val) 30, by omega⟩) else ⊥

theorem full_apply (x : S32x15x31.Idx → EReal) (h : Fin 32) (e : Fin 15) (q u : Fin 64) : full x (ix4 h e q u) = bias x h e q u := by
  have hb : (Ideal.ofBits FTy.f32 0xFF800000#32 : EReal) = ⊥ := by simp [Ideal.ofBits, Ideal.ieee]
  obtain ⟨h1, h2⟩ := col_facts q u
  unfold full bias
  generalize colOk = a at h1 ⊢
  generalize colIdx = b at h2 ⊢
  have hg := gather_bias x (broadcastInDim S64x64x1 ![0, 1] bcast_S64x64_S64x64x1_0_1 b) h e q u
  have hi : broadcastInDim S64x64x1 ![0, 1] bcast_S64x64_S64x64x1_0_1 b (ix3 q u 0) = b (ix2 q u) := by pointwise
  generalize Host.gather gather_S32x15x31_S64x64x1_S32x15x64x64_01_2_n_n_2_2_32151 x (broadcastInDim S64x64x1 ![0, 1] bcast_S64x64_S64x64x1_0_1 b) = g at hg ⊢
  pointwise
  rw [hg]
  by_cases hc : a (ix2 q u) = 1#1
  · rw [if_pos (show Ok q.val u.val from h1.1 hc), hc]
    refine congrArg (fun d => x (ix3 h e d)) (Fin.ext ?_)
    show min (broadcastInDim S64x64x1 ![0, 1] bcast_S64x64_S64x64x1_0_1 b (ix3 q u 0)).toInt.toNat 30 = _
    rw [hi, h2]
  · rw [if_neg (show ¬ Ok q.val u.val from fun h => hc (h1.2 h))]
    rw [hb]
    exact if_neg hc

theorem table_apply (x : S32x15x31.Idx → EReal) (h : Fin 32) (e : Fin 14) (q : Fin 64) (u : Fin 128) :
    table x (ix4 h e q u) = bias x h ⟨e.val + u.val / 64, by omega⟩ q ⟨u.val % 64, by omega⟩ := by
  rw [← full_apply]
  unfold table
  pointwise
  by_cases hu : u.val < 64
  · rw [dif_pos hu]
    refine congrArg₂ (fun (a : Fin 15) (b : Fin 64) => full x (ix4 h a q b)) (Fin.ext ?_) (Fin.ext ?_) <;> simp <;> omega
  · rw [dif_neg hu]
    refine congrArg₂ (fun (a : Fin 15) (b : Fin 64) => full x (ix4 h a q b)) (Fin.ext ?_) (Fin.ext ?_) <;> simp <;> omega

end Cert.KernelIdeal.Proved
end
-- ==== Proof.AttnArray.lean ====
module

public import proofs.«01_k».proof.Proof.AttnTable

/-! What the attention kernel's result array holds: the windowed attention at every token and lane. -/

@[expose] public section
set_option maxRecDepth 16384
noncomputable section
open Idealize Idealize.ShloMosaic Idealize.ShloMosaic.TcCoe
open scoped BigOperators
namespace Cert.KernelIdeal.Proved
open Cert.KernelIdeal Cert.KernelIdeal.Gen Cert.Attn

theorem start_add (r : Fin 64) : start r.val + 7 ≤ r.val + 7 ∧ r.val ≤ start r.val + 7 ∧ start r.val ≤ 56 := by
  unfold start; omega

/-- The grid row of a token. -/
def row (T : Fin 4096) : Fin 64 := ⟨T.val / 64, by omega⟩

/-- Key `w` of the window of token `T`. -/
def key (T : Fin 4096) (w : Fin 512) : Fin 4096 := ⟨64 * start (row T).val + w.val, by have := start_add (row T); omega⟩

/-- The scaled and biased score of key `w` for token `T` in head `h`. -/
def score (q k : S4x4096x1024.Idx → EReal) (x : S32x15x31.Idx → EReal) (n : Fin 4) (T : Fin 4096) (h : Fin 32) (w : Fin 512) : EReal :=
  (∑ d : Fin 32, q (ix3 n T ⟨h.val * 32 + d.val, by omega⟩) * k (ix3 n (key T w) ⟨h.val * 32 + d.val, by omega⟩)) * scale
    + bias x h ⟨start (row T).val + 7 - (row T).val + w.val / 64, by have := start_add (row T); omega⟩ ⟨T.val % 64, by omega⟩ ⟨w.val % 64, by omega⟩

/-- The attention at token `T` and lane `L` of batch element `n`. -/
def attn (q k v : S4x4096x1024.Idx → EReal) (x : S32x15x31.Idx → EReal) (n : Fin 4) (T : Fin 4096) (L : Fin 1024) : EReal :=
  soft (score q k x n T ⟨L.val / 32, by omega⟩) (fun w => v (ix3 n (key T w) L))

variable (m : (ℓ : Loc nD τ sig) → Buf (Elt Ideal) ℓ) (c : Dev nD)

/-- Where each window stands at grid point `t`. -/
theorem idx : ∀ t : Fin grid0.N, (win0_0.index t = ![(grid0.coords t 0).val, (grid0.coords t 1).val, 0] ∧ win0_8.index t = ![(grid0.coords t 0).val, (grid0.coords t 1).val, 0])
    ∧ (win0_2.index t = ![(grid0.coords t 0).val, (grid0.coords t 1).val, 0] ∧ win0_5.index t = ![(grid0.coords t 0).val, (grid0.coords t 1).val, 0])
    ∧ (win0_1.index t = ![(grid0.coords t 0).val, 4 * (grid0.coords t 1).val - 1, 0] ∧ win0_4.index t = ![(grid0.coords t 0).val, 4 * (grid0.coords t 1).val - 1, 0])
    ∧ (win0_3.index t = ![(grid0.coords t 0).val, min (4 * (grid0.coords t 1).val + 4) 15, 0] ∧ win0_6.index t = ![(grid0.coords t 0).val, min (4 * (grid0.coords t 1).val + 4) 15, 0])
    ∧ win0_7.index t = ![0, 0, 0, 0] := by
  decide +kernel

/-- The batch element of grid point `t`. -/
def bat (t : Fin cfg0.N) : Fin 4 := ⟨(grid0.coords t 0).val, (grid0.coords t 0).isLt⟩
/-- The block of tokens of grid point `t`. -/
def blk (t : Fin cfg0.N) : Fin 4 := ⟨(grid0.coords t 1).val, (grid0.coords t 1).isLt⟩
/-- Token `y` of the block of grid point `t`. -/
def tok (t : Fin cfg0.N) (y : Fin 1024) : Fin 4096 := ⟨(blk t).val * 1024 + y.val, by omega⟩

theorem iblk0 (t : Fin cfg0.N) (r l : Fin 1024) : iblk m c 0 t (ix3 0 r l) = m ((c : Thread nD τ).loc main_arg0) (ix3 (bat t) (tok t r) l) := by
  rw [← V_main_arg0 m c]
  unfold tok bat blk
  blk_ext [iblk, idx t]

theorem iblk2 (t : Fin cfg0.N) (r l : Fin 1024) : iblk m c 2 t (ix3 0 r l) = m ((c : Thread nD τ).loc main_arg1) (ix3 (bat t) (tok t r) l) := by
  rw [← V_main_arg1 m c]
  unfold tok bat blk
  blk_ext [iblk, idx t]

theorem iblk5 (t : Fin cfg0.N) (r l : Fin 1024) : iblk m c 5 t (ix3 0 r l) = m ((c : Thread nD τ).loc main_arg2) (ix3 (bat t) (tok t r) l) := by
  rw [← V_main_arg2 m c]
  unfold tok bat blk
  blk_ext [iblk, idx t]

theorem iblk1 (t : Fin cfg0.N) (r : Fin 256) (l : Fin 1024) : iblk m c 1 t (ix3 0 r l)
    = m ((c : Thread nD τ).loc main_arg1) (ix3 (bat t) ⟨(4 * (blk t).val - 1) * 256 + r.val, by omega⟩ l) := by
  rw [← V_main_arg1 m c]
  unfold bat blk
  blk_ext [iblk, idx t]

theorem iblk4 (t : Fin cfg0.N) (r : Fin 256) (l : Fin 1024) : iblk m c 4 t (ix3 0 r l)
    = m ((c : Thread nD τ).loc main_arg2) (ix3 (bat t) ⟨(4 * (blk t).val - 1) * 256 + r.val, by omega⟩ l) := by
  rw [← V_main_arg2 m c]
  unfold bat blk
  blk_ext [iblk, idx t]

theorem iblk3 (t : Fin cfg0.N) (r : Fin 256) (l : Fin 1024) : iblk m c 3 t (ix3 0 r l)
    = m ((c : Thread nD τ).loc main_arg1) (ix3 (bat t) ⟨min (4 * (blk t).val + 4) 15 * 256 + r.val, by omega⟩ l) := by
  rw [← V_main_arg1 m c]
  unfold bat blk
  blk_ext [iblk, idx t]

theorem iblk6 (t : Fin cfg0.N) (r : Fin 256) (l : Fin 1024) : iblk m c 6 t (ix3 0 r l)
    = m ((c : Thread nD τ).loc main_arg2) (ix3 (bat t) ⟨min (4 * (blk t).val + 4) 15 * 256 + r.val, by omega⟩ l) := by
  rw [← V_main_arg2 m c]
  unfold bat blk
  blk_ext [iblk, idx t]

theorem iblk7 (t : Fin cfg0.N) (h : Fin 32) (e : Fin 14) (q : Fin 64) (u : Fin 128) : iblk m c 7 t (ix4 h e q u)
    = bias (m ((c : Thread nD τ).loc main_arg3)) h ⟨e.val + u.val / 64, by omega⟩ q ⟨u.val % 64, by omega⟩ := by
  rw [← table_apply, ← table_eq]
  blk_ext [iblk, idx t]

/-- A window of the assembled buffer, in terms of the array whose blocks were assembled. -/
theorem stack_win (X : S4x4096x1024.Idx → EReal) (t : Fin cfg0.N) (a : Vec Ideal S1x256x1024 .bf16) (b : Vec Ideal S1x1024x1024 .bf16) (d : Vec Ideal S1x256x1024 .bf16)
    (ha : ∀ (r : Fin 256) (l : Fin 1024), a (ix3 0 r l) = X (ix3 (bat t) ⟨(4 * (blk t).val - 1) * 256 + r.val, by omega⟩ l))
    (hb : ∀ (r l : Fin 1024), b (ix3 0 r l) = X (ix3 (bat t) (tok t r) l))
    (hd : ∀ (r : Fin 256) (l : Fin 1024), d (ix3 0 r l) = X (ix3 (bat t) ⟨min (4 * (blk t).val + 4) 15 * 256 + r.val, by omega⟩ l))
    (y : Fin 1024) (w : Fin 512) (l : Fin 1024) :
    stack a b d (winRow (grid0.coords t) y w) l = X (ix3 (bat t) (key (tok t y) w) l) := by
  have hk : (key (tok t y) w).val = 64 * min (16 * (blk t).val + y.val / 64 - 4) 56 + w.val := by
    have hr : (tok t y).val / 64 = 16 * (blk t).val + y.val / 64 := by unfold tok; simp only; omega
    unfold key row start
    simp only [hr]
  have hw : (winRow (grid0.coords t) y w).val = 64 * (min (16 * (blk t).val + y.val / 64 - 4) 56 + 4 - 16 * (blk t).val) + w.val := rfl
  by_cases h1 : (winRow (grid0.coords t) y w).val < 256
  · rw [stack_fst (winRow (grid0.coords t) y w) l ⟨(winRow (grid0.coords t) y w).val, h1⟩ l rfl rfl, ha]
    refine congrArg (fun i => X (ix3 (bat t) i l)) (Fin.ext ?_)
    simp only
    omega
  · by_cases h2 : (winRow (grid0.coords t) y w).val < 1280
    · rw [stack_snd (winRow (grid0.coords t) y w) l ⟨(winRow (grid0.coords t) y w).val - 256, by omega⟩ l (by simp only; omega) rfl, hb]
      refine congrArg (fun i => X (ix3 (bat t) i l)) (Fin.ext ?_)
      rw [hk]
      unfold tok
      simp only
      omega
    · rw [stack_trd (winRow (grid0.coords t) y w) l ⟨(winRow (grid0.coords t) y w).val - 1280, by omega⟩ l (by simp only; omega) rfl, hd]
      refine congrArg (fun i => X (ix3 (bat t) i l)) (Fin.ext ?_)
      simp only
      omega

/-- What grid point `t` computes at token `y` and lane `l` of its block is the attention there. -/
theorem block_eq (t : Fin cfg0.N) (y l : Fin 1024) :
    blockAt (iblk m c 0 t) (stack (iblk m c 1 t) (iblk m c 2 t) (iblk m c 3 t)) (stack (iblk m c 4 t) (iblk m c 5 t) (iblk m c 6 t)) (iblk m c 7 t) (grid0.coords t) y l
      = attn (m ((c : Thread nD τ).loc main_arg0)) (m ((c : Thread nD τ).loc main_arg1)) (m ((c : Thread nD τ).loc main_arg2)) (m ((c : Thread nD τ).loc main_arg3)) (bat t) (tok t y) l := by
  unfold blockAt attn
  refine congrArg₂ soft (funext fun w => ?_) (funext fun w => ?_)
  · unfold score
    refine congrArg₂ (· + ·) (congrArg (· * scale) (Finset.sum_congr rfl fun d _ => ?_)) ?_
    · rw [iblk0 m c, stack_win (m ((c : Thread nD τ).loc main_arg1)) t _ _ _ (iblk1 m c t) (iblk2 m c t) (iblk3 m c t)]
    · unfold biasAt
      rw [iblk7 m c]
      have hr : (tok t y).val / 64 = 16 * (blk t).val + y.val / 64 := by unfold tok; simp only; omega
      have hm : (tok t y).val % 64 = y.val % 64 := by unfold tok; simp only; omega
      have hd : delta (grid0.coords t) (trip y) = start (16 * (blk t).val + y.val / 64) + 7 - (16 * (blk t).val + y.val / 64) := rfl
      have e1 : ∀ (p p' : Fin 15) (q q' u u' : Fin 64), p.val = p'.val → q.val = q'.val → u.val = u'.val →
          bias (m ((c : Thread nD τ).loc main_arg3)) ⟨l.val / 32, by omega⟩ p q u = bias (m ((c : Thread nD τ).loc main_arg3)) ⟨l.val / 32, by omega⟩ p' q' u' := by
        intro p p' q q' u u' h1 h2 h3
        rw [Fin.ext h1, Fin.ext h2, Fin.ext h3]
      refine e1 _ _ _ _ _ _ ?_ ?_ ?_
      · unfold row
        simp only [hd, hr]
        omega
      · simp only [hm]
      · simp only; omega
  · exact stack_win (m ((c : Thread nD τ).loc main_arg2)) t _ _ _ (iblk4 m c t) (iblk5 m c t) (iblk6 m c t) y w l

/-- The output block of grid point `t`. -/
theorem out_at (t : Fin cfg0.N) (y l : Fin 1024) : outsAt0 m c t (ix3 0 y l)
    = attn (m ((c : Thread nD τ).loc main_arg0)) (m ((c : Thread nD τ).loc main_arg1)) (m ((c : Thread nD τ).loc main_arg2)) (m ((c : Thread nD τ).loc main_arg3)) (bat t) (tok t y) l := by
  unfold outsAt0
  exact (out_apply ..).trans (block_eq m c t y l)

/-- The result array after the run is the attention at every token and lane. -/
theorem result : (dats m 0 c).arrAt 8 cfg0.N = fun i => attn (m ((c : Thread nD τ).loc main_arg0)) (m ((c : Thread nD τ).loc main_arg1)) (m ((c : Thread nD τ).loc main_arg2))
    (m ((c : Thread nD τ).loc main_arg3)) (i 0) (i 1) (i 2) := by
  refine (dats m 0 c).arrAt_eq_of_covers 8 _ (by decide +kernel) fun t hf y => ?_
  blk_simp
  rw [after0_8]
  revert y
  intro (y : S1x1024x1024.Idx)
  idx_vars y
  have e : ∀ (n n' : Fin 4) (T T' : Fin 4096) (L L' : Fin 1024), n.val = n'.val → T.val = T'.val → L.val = L'.val →
      attn (m ((c : Thread nD τ).loc main_arg0)) (m ((c : Thread nD τ).loc main_arg1)) (m ((c : Thread nD τ).loc main_arg2)) (m ((c : Thread nD τ).loc main_arg3)) n T L
        = attn (m ((c : Thread nD τ).loc main_arg0)) (m ((c : Thread nD τ).loc main_arg1)) (m ((c : Thread nD τ).loc main_arg2)) (m ((c : Thread nD τ).loc main_arg3)) n' T' L' := by
    intro n n' T T' L L' h1 h2 h3
    rw [Fin.ext h1, Fin.ext h2, Fin.ext h3]
  have hy0 : y0 = 0 := Subsingleton.elim _ _
  subst hy0
  refine (out_at m c t y1 y2).trans (e _ _ _ _ _ _ ?_ ?_ ?_)
  · blk_simp [idx t]
    try simp [bat]
  · blk_simp [idx t]
    try simp [tok, blk]
  · blk_simp [idx t]
    try simp

end Cert.KernelIdeal.Proved
end
-- ==== Proof.AttnRef.lean ====
module

public import proofs.«01_k».proof.Proof.AttnArray
public import proofs.«01_k».proof.Proof.Gen.ReferenceIdeal.Read
public import proofs.«01_k».proof.Proof.Gen.ReferenceIdeal.Run

/-! The reference's attention, read at one token and lane. -/

@[expose] public section
set_option maxRecDepth 16384
noncomputable section
open Idealize Idealize.ShloMosaic Idealize.ShloMosaic.TcCoe
open scoped BigOperators
namespace Cert.ReferenceIdeal.Proved
open Cert.ReferenceIdeal Cert.ReferenceIdeal.Read Cert.Attn
open Cert.KernelIdeal.Proved (start start_add gather_offset gather_start Ok bias)

/-- Which grid row a window's row is, which bias row is its, which bias column is a pair of columns', and which columns belong to a window. -/
theorem win_k : ∀ (r : Fin 64) (i : Fin 8), min (val_main_v52 (F := Ideal) (ix3 r i 0)).toInt.toNat 63 = start r.val + i.val := by decide +kernel
theorem win_v : ∀ (r : Fin 64) (i : Fin 8), min (val_main_v59 (F := Ideal) (ix3 r i 0)).toInt.toNat 63 = start r.val + i.val := by decide +kernel
theorem bias_row : ∀ (r : Fin 64) (i : Fin 8), min (val_main_v67 (F := Ideal) (ix4 r i 0 0)).toInt.toNat 14 = start r.val + i.val + 7 - r.val := by decide +kernel
theorem bias_col : ∀ q u : Fin 64, min (val_main_v72 (F := Ideal) (ix4 0 0 q u)).toInt.toNat 30 = min (u.val + 15 - q.val) 30 := by decide +kernel
theorem col_ok : ∀ q u : Fin 64, val_main_v23 (F := Ideal) (ix2 q u) = 1#1 ↔ Ok q.val u.val := by decide +kernel

/-- The gather of window rows, read at an index. -/
theorem gather_rows (x : S4x64x64x32x32.Idx → EReal) (idx : IVec S64x8x1 32) (n : Fin 4) (r : Fin 64) (i : Fin 8) (u : Fin 64) (h d : Fin 32) :
    Host.gather gather_S4x64x64x32x32_S64x8x1_S4x64x8x64x32x32_0345_1_n_n_1_2_41643232 x idx (ix6 n r i u h d)
      = x (ix5 n ⟨min (idx (ix3 r i 0)).toInt.toNat 63, by omega⟩ u h d) := by
  unfold Host.gather
  refine congrArg x (funext fun a => Fin.ext ?_)
  match a with
  | ⟨0, _⟩ => exact gather_offset gather_S4x64x64x32x32_S64x8x1_S4x64x8x64x32x32_0345_1_n_n_1_2_41643232 _ _ 0 0 (by decide) (by decide) (by decide) rfl
  | ⟨1, _⟩ =>
    refine gather_start gather_S4x64x64x32x32_S64x8x1_S4x64x8x64x32x32_0345_1_n_n_1_2_41643232 _ _ 1 (ix3 r i 0) (by decide) (by decide) (by decide) (funext fun b => Fin.ext ?_)
    match b with
    | ⟨0, _⟩ => rfl
    | ⟨1, _⟩ => rfl
    | ⟨2, _⟩ => rfl
  | ⟨2, _⟩ => exact gather_offset gather_S4x64x64x32x32_S64x8x1_S4x64x8x64x32x32_0345_1_n_n_1_2_41643232 _ _ 2 3 (by decide) (by decide) (by decide) rfl
  | ⟨3, _⟩ => exact gather_offset gather_S4x64x64x32x32_S64x8x1_S4x64x8x64x32x32_0345_1_n_n_1_2_41643232 _ _ 3 4 (by decide) (by decide) (by decide) rfl
  | ⟨4, _⟩ => exact gather_offset gather_S4x64x64x32x32_S64x8x1_S4x64x8x64x32x32_0345_1_n_n_1_2_41643232 _ _ 4 5 (by decide) (by decide) (by decide) rfl

/-- The gather of biases, read at an index. -/
theorem gather_bias (x : S32x15x31.Idx → EReal) (idx : IVec S64x8x64x64x2 32) (h : Fin 32) (r : Fin 64) (i : Fin 8) (q u : Fin 64) :
    Host.gather gather_S32x15x31_S64x8x64x64x2_S32x64x8x64x64_0_12_n_n_12_4_3211 x idx (ix5 h r i q u)
      = x (ix3 h ⟨min (idx (ix5 r i q u 0)).toInt.toNat 14, by omega⟩ ⟨min (idx (ix5 r i q u 1)).toInt.toNat 30, by omega⟩) := by
  unfold Host.gather
  refine congrArg x (funext fun a => Fin.ext ?_)
  match a with
  | ⟨0, _⟩ => exact gather_offset gather_S32x15x31_S64x8x64x64x2_S32x64x8x64x64_0_12_n_n_12_4_3211 _ _ 0 0 (by decide) (by decide) (by decide) rfl
  | ⟨1, _⟩ =>
    refine gather_start gather_S32x15x31_S64x8x64x64x2_S32x64x8x64x64_0_12_n_n_12_4_3211 _ _ 1 (ix5 r i q u 0) (by decide) (by decide) (by decide) (funext fun b => Fin.ext ?_)
    match b with
    | ⟨0, _⟩ => rfl
    | ⟨1, _⟩ => rfl
    | ⟨2, _⟩ => rfl
    | ⟨3, _⟩ => rfl
    | ⟨4, _⟩ => rfl
  | ⟨2, _⟩ =>
    refine gather_start gather_S32x15x31_S64x8x64x64x2_S32x64x8x64x64_0_12_n_n_12_4_3211 _ _ 2 (ix5 r i q u 1) (by decide) (by decide) (by decide) (funext fun b => Fin.ext ?_)
    match b with
    | ⟨0, _⟩ => rfl
    | ⟨1, _⟩ => rfl
    | ⟨2, _⟩ => rfl
    | ⟨3, _⟩ => rfl
    | ⟨4, _⟩ => rfl

/-- An argument seen as a grid of heads. -/
theorem grid_q (x : S4x4096x1024.Idx → EReal) (n : Fin 4) (r q : Fin 64) (h d : Fin 32) :
    val_main_v1 (F := Ideal) x (ix5 n r q h d) = x (ix3 n ⟨r.val * 64 + q.val, by omega⟩ ⟨h.val * 32 + d.val, by omega⟩) := by
  rw [val_main_v1_apply]
  refine congrArg x (funext fun a => Fin.ext ?_)
  match a with
  | ⟨0, _⟩ => show ((((n.val * 64 + r.val) * 64 + q.val) * 32 + h.val) * 32 + d.val) / 4194304 = n.val; omega
  | ⟨1, _⟩ => show ((((n.val * 64 + r.val) * 64 + q.val) * 32 + h.val) * 32 + d.val) / 1024 % 4096 = r.val * 64 + q.val; omega
  | ⟨2, _⟩ => show ((((n.val * 64 + r.val) * 64 + q.val) * 32 + h.val) * 32 + d.val) % 1024 = h.val * 32 + d.val; omega

theorem grid_k (x : S4x4096x1024.Idx → EReal) (n : Fin 4) (r q : Fin 64) (h d : Fin 32) :
    val_main_v3 (F := Ideal) x (ix5 n r q h d) = x (ix3 n ⟨r.val * 64 + q.val, by omega⟩ ⟨h.val * 32 + d.val, by omega⟩) := grid_q x n r q h d

theorem grid_v (x : S4x4096x1024.Idx → EReal) (n : Fin 4) (r q : Fin 64) (h d : Fin 32) :
    val_main_v5 (F := Ideal) x (ix5 n r q h d) = x (ix3 n ⟨r.val * 64 + q.val, by omega⟩ ⟨h.val * 32 + d.val, by omega⟩) := grid_q x n r q h d

/-- The keys of a window. -/
theorem win_at (x : S4x4096x1024.Idx → EReal) (n : Fin 4) (r : Fin 64) (i : Fin 8) (u : Fin 64) (h d : Fin 32) :
    val_main_v53 (F := Ideal) x (ix6 n r i u h d)
      = x (ix3 n ⟨(start r.val + i.val) * 64 + u.val, by have := start_add r; omega⟩ ⟨h.val * 32 + d.val, by omega⟩) := by
  unfold val_main_v53
  rw [gather_rows, grid_k]
  refine congrArg (fun t => x (ix3 n t _)) (Fin.ext ?_)
  simp only [win_k]

/-- The values of a window. -/
theorem win_at_v (x : S4x4096x1024.Idx → EReal) (n : Fin 4) (r : Fin 64) (i : Fin 8) (u : Fin 64) (h d : Fin 32) :
    val_main_v60 (F := Ideal) x (ix6 n r i u h d)
      = x (ix3 n ⟨(start r.val + i.val) * 64 + u.val, by have := start_add r; omega⟩ ⟨h.val * 32 + d.val, by omega⟩) := by
  unfold val_main_v60
  rw [gather_rows, grid_v]
  refine congrArg (fun t => x (ix3 n t _)) (Fin.ext ?_)
  simp only [win_v]

/-- The bias of a window. -/
theorem bias_at (x : S32x15x31.Idx → EReal) (h : Fin 32) (r : Fin 64) (i : Fin 8) (q u : Fin 64) :
    val_main_v78 (F := Ideal) x (ix5 h r i q u)
      = x (ix3 h ⟨start r.val + i.val + 7 - r.val, by have := start_add r; omega⟩ ⟨min (u.val + 15 - q.val) 30, by omega⟩) := by
  unfold val_main_v78
  rw [gather_bias]
  have h0 : val_main_v77 (F := Ideal) (ix5 r i q u 0) = val_main_v67 (F := Ideal) (ix4 r i 0 0) := by
    unfold val_main_v77 val_main_v75 val_main_v73
    generalize val_main_v67 (F := Ideal) = a
    generalize val_main_v76 (F := Ideal) = b
    pointwise
  have h1 : val_main_v77 (F := Ideal) (ix5 r i q u 1) = val_main_v72 (F := Ideal) (ix4 0 0 q u) := by
    unfold val_main_v77 val_main_v76 val_main_v74
    generalize val_main_v72 (F := Ideal) = a
    generalize val_main_v75 (F := Ideal) = b
    pointwise
  refine congrArg₂ (fun t e => x (ix3 h t e)) (Fin.ext ?_) (Fin.ext ?_)
  · simp only [h0, bias_row]
  · simp only [h1, bias_col]

end Cert.ReferenceIdeal.Proved
end
-- ==== Proof.AttnScore.lean ====
module

public import proofs.«01_k».proof.Proof.AttnRef

/-! The reference's scores, weights and result, read at one token and lane. -/

@[expose] public section
set_option maxRecDepth 16384
noncomputable section
open Idealize Idealize.ShloMosaic Idealize.ShloMosaic.TcCoe
open scoped BigOperators
namespace Cert.ReferenceIdeal.Proved
open Cert.ReferenceIdeal Cert.ReferenceIdeal.Read Cert.Attn
open Cert.KernelIdeal.Proved (start start_add Ok bias score key row scale attn)

theorem bot_word : (Ideal.ofBits FTy.f32 0xFF800000#32 : EReal) = ⊥ := by simp [Ideal.ofBits, Ideal.ieee]

/-- The token in grid row `r` and column `q`. -/
def tok (r q : Fin 64) : Fin 4096 := ⟨r.val * 64 + q.val, by omega⟩

/-- The masked score. -/
theorem score_at (x0 x1 : S4x4096x1024.Idx → EReal) (x3 : S32x15x31.Idx → EReal) (n : Fin 4) (h : Fin 32) (r q : Fin 64) (i : Fin 8) (u : Fin 64) :
    val_main_v87 (F := Ideal) x0 x1 x3 (ix6 n h r q i u) = score x0 x1 x3 n (tok r q) h ⟨i.val * 64 + u.val, by omega⟩ := by
  have hr : row (tok r q) = r := Fin.ext (by unfold row tok; simp only; omega)
  have hq : (tok r q).val % 64 = q.val := by unfold tok; simp only; omega
  have hi : (i.val * 64 + u.val) / 64 = i.val := by omega
  have hu : (i.val * 64 + u.val) % 64 = u.val := by omega
  have hm : val_main_call3_v1 (F := Ideal) (ix6 n h r q i u) = val_main_v23 (F := Ideal) (ix2 q u) := by
    unfold val_main_call3_v1 val_main_v86
    generalize val_main_v23 (F := Ideal) = a
    pointwise
  have hb : val_main_call3_v2 (F := Ideal) (ix6 n h r q i u) = ⊥ := by
    rw [← bot_word]
    rfl
  have hs : val_main_v79 (F := Ideal) x0 x1 (ix6 n h r q i u)
      = ∑ d : Fin 32, x0 (ix3 n (tok r q) ⟨h.val * 32 + d.val, by omega⟩) * x1 (ix3 n (key (tok r q) ⟨i.val * 64 + u.val, by omega⟩) ⟨h.val * 32 + d.val, by omega⟩) := by
    rw [val_main_v79_apply]
    refine Finset.sum_congr rfl fun d _ => ?_
    have e1 : lidx_main_v79 (ix6 n h r q i u) d = ix5 n r q h d := by
      funext a; match a with | ⟨0, _⟩ => rfl | ⟨1, _⟩ => rfl | ⟨2, _⟩ => rfl | ⟨3, _⟩ => rfl | ⟨4, _⟩ => rfl
    have e2 : ridx_main_v79 (ix6 n h r q i u) d = ix6 n r i u h d := by
      funext a; match a with | ⟨0, _⟩ => rfl | ⟨1, _⟩ => rfl | ⟨2, _⟩ => rfl | ⟨3, _⟩ => rfl | ⟨4, _⟩ => rfl | ⟨5, _⟩ => rfl
    rw [e1, e2, grid_q, win_at]
    refine congrArg₂ (· * ·) rfl (congrArg (fun t => x1 (ix3 n t _)) (Fin.ext ?_))
    unfold key
    simp only [hr]
    omega
  have hx : val_main_v84 (F := Ideal) x3 (ix6 n h r q i u) = val_main_v78 (F := Ideal) x3 (ix5 h r i q u) := by
    unfold val_main_v84 val_main_v83 val_main_v82
    generalize val_main_v78 (F := Ideal) x3 = a
    pointwise
  have hc : val_main_v80 (F := Ideal) (ix6 n h r q i u) = scale := rfl
  have ha : val_main_v85 (F := Ideal) x0 x1 x3 (ix6 n h r q i u)
      = val_main_v79 (F := Ideal) x0 x1 (ix6 n h r q i u) * val_main_v80 (F := Ideal) (ix6 n h r q i u) + val_main_v84 (F := Ideal) x3 (ix6 n h r q i u) := rfl
  rw [val_main_v87_apply, hm, hb, ha, hs, hc, hx, bias_at]
  unfold score bias
  by_cases ho : Ok q.val u.val
  · rw [(col_ok q u).2 ho, if_pos (show Ok ((tok r q).val % 64) ((i.val * 64 + u.val) % 64) by rw [hq, hu]; exact ho)]
    refine congrArg₂ (· + ·) rfl (congrArg₂ (fun e f => x3 (ix3 h e f)) (Fin.ext ?_) (Fin.ext ?_))
    · have := start_add r
      simp only [hr, hi]
      omega
    · simp only [hq, hu]
  · rw [if_neg (show ¬ Ok ((tok r q).val % 64) ((i.val * 64 + u.val) % 64) by rw [hq, hu]; exact ho), EReal.add_bot]
    exact if_neg (fun e => ho ((col_ok q u).1 e))

/-- The scores of a window in one row. -/
theorem row_at (x0 x1 : S4x4096x1024.Idx → EReal) (x3 : S32x15x31.Idx → EReal) (n : Fin 4) (h : Fin 32) (r q : Fin 64) (w : Fin 512) :
    val_main_v88 (F := Ideal) x0 x1 x3 (ix5 n h r q w) = score x0 x1 x3 n (tok r q) h w := by
  have e : val_main_v88 (F := Ideal) x0 x1 x3 (ix5 n h r q w) = val_main_v87 (F := Ideal) x0 x1 x3 (ix6 n h r q ⟨w.val / 64, by omega⟩ ⟨w.val % 64, by omega⟩) := by
    unfold val_main_v88
    generalize val_main_v87 (F := Ideal) x0 x1 x3 = a
    pointwise
  rw [e, score_at]
  exact congrArg _ (Fin.ext (by simp only; omega))

/-- The maximum of a window's scores as a fold. -/
theorem fold_at (x0 x1 : S4x4096x1024.Idx → EReal) (x3 : S32x15x31.Idx → EReal) (n : Fin 4) (h : Fin 32) (r q : Fin 64) :
    val_main_v89 (F := Ideal) x0 x1 x3 (ix4 n h r q) = (Finset.univ : Finset (Fin 512)).fold max (Ideal.ofBits FTy.f32 0xFF800000#32) fun w => val_main_v88 (F := Ideal) x0 x1 x3 (ix5 n h r q w) := by
  unfold val_main_v89 val_main_cst_19
  generalize val_main_v88 (F := Ideal) x0 x1 x3 = a
  pointwise

/-- The maximum starts from −∞. -/
theorem low_at (i : S4x32x64x64.Idx) : val_main_v90 (F := Ideal) i = Ideal.ofBits FTy.f32 0xFF800000#32 := by
  rw [val_main_v90_apply, val_main_cst_20_apply]
  rfl

/-- The largest score of the row. -/
theorem rowmax_at (x0 x1 : S4x4096x1024.Idx → EReal) (x3 : S32x15x31.Idx → EReal) (n : Fin 4) (h : Fin 32) (r q : Fin 64) :
    val_main_v91 (F := Ideal) x0 x1 x3 (ix4 n h r q) = rowMax fun w => val_main_v88 (F := Ideal) x0 x1 x3 (ix5 n h r q w) := by
  rw [val_main_v91_apply, fold_at, low_at, bot_word]
  generalize val_main_v88 (F := Ideal) x0 x1 x3 = a
  exact max_eq_right bot_le

/-- The largest score. -/
theorem max_at (x0 x1 : S4x4096x1024.Idx → EReal) (x3 : S32x15x31.Idx → EReal) (n : Fin 4) (h : Fin 32) (r q : Fin 64) :
    val_main_v91 (F := Ideal) x0 x1 x3 (ix4 n h r q) = rowMax (score x0 x1 x3 n (tok r q) h) := by
  rw [rowmax_at]
  exact congrArg rowMax (funext fun w => row_at x0 x1 x3 n h r q w)

/-- The weight of a key. -/
theorem weight_at (x0 x1 : S4x4096x1024.Idx → EReal) (x3 : S32x15x31.Idx → EReal) (n : Fin 4) (h : Fin 32) (r q : Fin 64) (w : Fin 512) :
    val_main_v95 (F := Ideal) x0 x1 x3 (ix5 n h r q w) = weight (score x0 x1 x3 n (tok r q) h) w := by
  have e : val_main_v93 (F := Ideal) x0 x1 x3 (ix5 n h r q w) = val_main_v91 (F := Ideal) x0 x1 x3 (ix4 n h r q) := by
    unfold val_main_v93 val_main_v92
    generalize val_main_v91 (F := Ideal) x0 x1 x3 = a
    pointwise
  rw [val_main_v95_apply, val_main_v94_apply, e, row_at, max_at]
  generalize score x0 x1 x3 n (tok r q) h = s
  rfl

/-- The weight divided by the sum of the weights. -/
theorem prob_at (x0 x1 : S4x4096x1024.Idx → EReal) (x3 : S32x15x31.Idx → EReal) (n : Fin 4) (h : Fin 32) (r q : Fin 64) (w : Fin 512) :
    val_main_v99 (F := Ideal) x0 x1 x3 (ix5 n h r q w)
      = Ideal.div (weight (score x0 x1 x3 n (tok r q) h) w) (∑ w', weight (score x0 x1 x3 n (tok r q) h) w') := by
  have e : val_main_v98 (F := Ideal) x0 x1 x3 (ix5 n h r q w) = val_main_v96 (F := Ideal) x0 x1 x3 (ix4 n h r q) := by
    unfold val_main_v98 val_main_v97
    generalize val_main_v96 (F := Ideal) x0 x1 x3 = a
    pointwise
  have e1 : val_main_v96 (F := Ideal) x0 x1 x3 (ix4 n h r q) = ∑ w', weight (score x0 x1 x3 n (tok r q) h) w' := by
    rw [val_main_v96_apply]
    have z (i : S_.Idx) : val_main_cst_21 (F := Ideal) i = (0 : EReal) := by
      rw [val_main_cst_21_apply]
      simp [Ideal.ofBits, Ideal.ieee, FloatOps.ofBits]
    rw [z, zero_add]
    refine Finset.sum_congr rfl fun w' _ => ?_
    rw [← weight_at]
    refine congrArg _ (funext fun a => ?_)
    match a with | ⟨0, _⟩ => rfl | ⟨1, _⟩ => rfl | ⟨2, _⟩ => rfl | ⟨3, _⟩ => rfl | ⟨4, _⟩ => rfl
  rw [val_main_v99_apply, e, e1, weight_at]
  generalize score x0 x1 x3 n (tok r q) h = s
  rfl

/-- The reference at token `T` and lane `L`. -/
theorem ref_at (x0 x1 x2 : S4x4096x1024.Idx → EReal) (x3 : S32x15x31.Idx → EReal) (n : Fin 4) (T : Fin 4096) (L : Fin 1024) :
    val_main_v104 (F := Ideal) x0 x1 x2 x3 (ix3 n T L)
      = ∑ w, Ideal.div (weight (score x0 x1 x3 n T ⟨L.val / 32, by omega⟩) w) (∑ w', weight (score x0 x1 x3 n T ⟨L.val / 32, by omega⟩) w')
          * x2 (ix3 n (key T w) L) := by
  have e : val_main_v104 (F := Ideal) x0 x1 x2 x3 (ix3 n T L)
      = val_main_v101 (F := Ideal) x0 x1 x2 x3 (ix5 n (row T) ⟨L.val / 32, by omega⟩ ⟨L.val % 32, by omega⟩ ⟨T.val % 64, by omega⟩) := by
    show val_main_v103 (F := Ideal) x0 x1 x2 x3 (ix3 n T L) = _
    rw [val_main_v103_apply, val_main_v102_apply]
    refine congrArg _ (funext fun a => Fin.ext ?_)
    unfold row
    match a with
    | ⟨0, _⟩ => show ((n.val * 4096 + T.val) * 1024 + L.val) / 4194304 = n.val; omega
    | ⟨1, _⟩ => show ((n.val * 4096 + T.val) * 1024 + L.val) / 65536 % 64 = T.val / 64; omega
    | ⟨2, _⟩ => show ((n.val * 4096 + T.val) * 1024 + L.val) / 32 % 32 = L.val / 32; omega
    | ⟨3, _⟩ => show ((n.val * 4096 + T.val) * 1024 + L.val) % 32 = L.val % 32; omega
    | ⟨4, _⟩ => show ((n.val * 4096 + T.val) * 1024 + L.val) / 1024 % 64 = T.val % 64; omega
  have hT : tok (row T) ⟨T.val % 64, by omega⟩ = T := Fin.ext (by unfold tok row; simp only; omega)
  rw [e, val_main_v101_apply]
  refine Finset.sum_congr rfl fun w _ => ?_
  generalize hh : (⟨L.val / 32, by omega⟩ : Fin 32) = h
  generalize hd : (⟨L.val % 32, by omega⟩ : Fin 32) = d
  generalize hq : (⟨T.val % 64, by omega⟩ : Fin 64) = q at hT ⊢
  have hhv : h.val = L.val / 32 := by rw [← hh]
  have hdv : d.val = L.val % 32 := by rw [← hd]
  have e1 : lidx_main_v101 (ix5 n (row T) h d q) w = ix5 n (row T) w h d := by
    funext a; match a with | ⟨0, _⟩ => rfl | ⟨1, _⟩ => rfl | ⟨2, _⟩ => rfl | ⟨3, _⟩ => rfl | ⟨4, _⟩ => rfl
  have e2 : ridx_main_v101 (ix5 n (row T) h d q) w = ix5 n h (row T) q w := by
    funext a; match a with | ⟨0, _⟩ => rfl | ⟨1, _⟩ => rfl | ⟨2, _⟩ => rfl | ⟨3, _⟩ => rfl | ⟨4, _⟩ => rfl
  have e3 : val_main_v100 (F := Ideal) x2 (ix5 n (row T) w h d) = val_main_v60 (F := Ideal) x2 (ix6 n (row T) ⟨w.val / 64, by omega⟩ ⟨w.val % 64, by omega⟩ h d) := by
    unfold val_main_v100
    generalize val_main_v60 (F := Ideal) x2 = a
    pointwise
  rw [e1, e2, e3, win_at_v, prob_at, hT, mul_comm]
  refine congrArg₂ (· * ·) rfl (congrArg₂ (fun t l => x2 (ix3 n t l)) (Fin.ext ?_) (Fin.ext ?_))
  · unfold key
    simp only
    omega
  · simp only [hhv, hdv]
    omega

end Cert.ReferenceIdeal.Proved
end
-- ==== Proof.AttnClaim.lean ====
module

public import proofs.«01_k».proof.Defs
public import proofs.«01_k».proof.Proof.AttnArray
public import proofs.«01_k».proof.Proof.AttnScore
public import proofs.«01_k».proof.Proof.Gen.Pre_finite
public import proofs.«01_k».proof.Proof.Gen.ReferenceIdeal.Run
public import Idealize.ShloMosaic.Lib.ReduceAll
public import Idealize.ShloMosaic.Lib.WordArith

/-! The attention claim: of finite queries, keys and bias, kernel and reference end holding the same array. -/

@[expose] public section
set_option maxRecDepth 16384
noncomputable section
open Idealize Idealize.ShloMosaic Idealize.ShloMosaic.TcCoe
open scoped BigOperators
namespace Cert.KernelIdeal.Proved
open Cert.KernelIdeal Cert.Attn

/-- A number whose absolute value is below plus infinity is real. -/
theorem real_of_lt (x : EReal) (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

theorem top_word : (Ideal.ofBits FTy.f32 0x7F800000#32 : EReal) = ⊤ := by simp [Ideal.ofBits, Ideal.ieee]

/-- The precondition's comparison at one element. -/
theorem real_of_cmp (x : EReal) (h : Ideal.cmp .olt (max x (-x)) (Ideal.ofBits FTy.f32 0x7F800000#32) = 1#1) : ∃ r : ℝ, x = (r : EReal) := by
  rw [top_word] at h
  exact real_of_lt x (of_decide_eq_true ((WordArith.ofBool_eq_one_iff _).1 h))

instance : Subsingleton Cert.Pre_finite.S_.Idx := ⟨fun _ _ => funext fun a => a.elim0⟩

/-- What the precondition says: queries, keys and bias are real. -/
theorem pre_real [hP : Cert.Pre_finite.Facts] (q k v : S4x4096x1024.Idx → EReal) (x : S32x15x31.Idx → EReal)
    (h : Cert.Pre_finite.fn (F := Ideal) q k v x = fun _ => 1#1) :
    (∀ i, ∃ r : ℝ, q i = (r : EReal)) ∧ (∀ i, ∃ r : ℝ, k i = (r : EReal)) ∧ ∀ i, ∃ r : ℝ, x i = (r : EReal) := by
  have e := congrFun h (fun a => a.elim0)
  have both (p q : BitVec 1) (h : IntOp.andi p q = 1#1) : p = 1#1 ∧ q = 1#1 := by
    revert p q; decide
  obtain ⟨e12, e3⟩ := both _ _ e
  obtain ⟨e1, e2⟩ := both _ _ e12
  exact ⟨fun i => real_of_cmp _ (Host.reduce_andi_all _ _ _ _ _ e1 i),
    fun i => real_of_cmp _ (Host.reduce_andi_all _ _ _ _ _ e2 i),
    fun i => real_of_cmp _ (Host.reduce_andi_all _ _ _ _ _ e3 i)⟩

/-- The scale is real. -/
theorem scale_real : ∃ r : ℝ, scale = (r : EReal) := by
  unfold scale
  simp only [Ideal.ofBits, Ideal.ieee]
  rw [if_neg (by decide), if_neg (by decide)]
  exact ⟨_, rfl⟩

section
variable (q k : S4x4096x1024.Idx → EReal) (x : S32x15x31.Idx → EReal) (hq : ∀ i, ∃ r : ℝ, q i = (r : EReal)) (hk : ∀ i, ∃ r : ℝ, k i = (r : EReal))
  (hx : ∀ i, ∃ r : ℝ, x i = (r : EReal)) (n : Fin 4) (T : Fin 4096) (h : Fin 32)
include hq hk hx

/-- A score is a real number plus a bias. -/
theorem score_split (w : Fin 512) : ∃ r : ℝ, score q k x n T h w
    = (r : EReal) + bias x h ⟨start (row T).val + 7 - (row T).val + w.val / 64, by have := start_add (row T); omega⟩ ⟨T.val % 64, by omega⟩ ⟨w.val % 64, by omega⟩ := by
  choose a ha using hq
  choose b hb using hk
  obtain ⟨s, hs⟩ := scale_real
  refine ⟨(∑ d : Fin 32, a (ix3 n T ⟨h.val * 32 + d.val, by omega⟩) * b (ix3 n (key T w) ⟨h.val * 32 + d.val, by omega⟩)) * s, ?_⟩
  unfold score
  rw [hs, EReal.coe_mul, ← sum_coe]
  simp only [ha, hb, EReal.coe_mul]

/-- No score is plus infinity. -/
theorem score_ne_top (w : Fin 512) : score q k x n T h w ≠ ⊤ := by
  obtain ⟨r, hr⟩ := score_split q k x hq hk hx n T h w
  rw [hr]
  unfold bias
  split
  · obtain ⟨s, hs⟩ := hx (ix3 h ⟨start (row T).val + 7 - (row T).val + w.val / 64, by have := start_add (row T); omega⟩ ⟨min (w.val % 64 + 15 - T.val % 64) 30, by omega⟩)
    rw [hs, ← EReal.coe_add]
    exact EReal.coe_ne_top _
  · rw [EReal.add_bot]
    exact bot_ne_top

/-- Some score is real. -/
theorem score_ne_bot : ∃ w, score q k x n T h w ≠ ⊥ := by
  refine ⟨⟨min (T.val % 64 - 8) 48, by omega⟩, ?_⟩
  obtain ⟨r, hr⟩ := score_split q k x hq hk hx n T h ⟨min (T.val % 64 - 8) 48, by omega⟩
  rw [hr]
  unfold bias
  rw [if_pos (show Ok (T.val % 64) (min (T.val % 64 - 8) 48 % 64) by unfold Ok; omega)]
  obtain ⟨s, hs⟩ := hx (ix3 h ⟨start (row T).val + 7 - (row T).val + min (T.val % 64 - 8) 48 / 64, by have := start_add (row T); omega⟩
    ⟨min (min (T.val % 64 - 8) 48 % 64 + 15 - T.val % 64) 30, by omega⟩)
  rw [hs, ← EReal.coe_add]
  exact EReal.coe_ne_bot _

end

/-- The attention kernel and its reference, of finite queries, keys and bias, end holding the same result. -/
theorem algebraic [hP : Cert.Pre_finite.Facts] : Cert.algebraic_KernelIdeal_ReferenceIdeal_pre_finite := by
  pair_intro
  · run_from Cert.KernelIdeal.Value.run_blocks m g
  · run_from Cert.ReferenceIdeal.Value.run m' g'
    rw [result m c, Cert.ReferenceIdeal.Read.val_main_v104_eq m' c]
    obtain ⟨h0, h1, h2, h3⟩ := hagree c
    rw [h0, h1, h2, h3]
    obtain ⟨hq, hk, hx⟩ := pre_real _ _ _ _ (hpre c)
    funext y
    revert y
    intro (y : S4x4096x1024.Idx)
    idx_vars y
    refine (Cert.ReferenceIdeal.Proved.ref_at _ _ _ _ _ _ _).trans ?_
    refine Eq.symm ?_
    exact soft_eq _ _ (score_ne_top _ _ _ hq hk hx _ _ _) (score_ne_bot _ _ _ hq hk hx _ _ _)

end Cert.KernelIdeal.Proved
end
-- ==== Proof.MixBlock.lean ====
module

public import proofs.«01_k».proof.Proof.FfnModel
public import proofs.«01_k».proof.Proof.Gen.MixIdeal.Value

/-! What one block of the mixing kernel computes, read at one row and lane. -/

@[expose] public section
set_option maxRecDepth 16384
noncomputable section
open Idealize Idealize.ShloMosaic
open scoped BigOperators
namespace Cert.MixIdeal.Proved
open Cert.MixIdeal Cert.MixIdeal.Gen
open Cert.FfnIdeal.Proved (rmsRow)

/-- Two branches merged by their gates and mapped on: `c` is the convolution's row, `a` the attention's. -/
def mergeRow (c a : Fin 1024 → EReal) (gate : Fin 2048 → EReal) (wc wa wo : Fin 1024 → Fin 1024 → EReal) (j : Fin 1024) : EReal :=
  ∑ l : Fin 1024, (Ideal.logistic (gate ⟨l.val, by omega⟩) * (∑ k, c k * wc k l) + Ideal.logistic (gate ⟨1024 + l.val, by omega⟩) * ∑ k, a k * wa k l) * wo l j

/-- Column `f` of the combined projection of token `T`. -/
def proj (X : S4x4096x1024.Idx → EReal) (g : S1024.Idx → EReal) (W : S1024x8192.Idx → EReal) (n : Fin 4) (T : Fin 4096) (f : Fin 8192) : EReal :=
  ∑ k : Fin 1024, rmsRow (fun k => X (ix3 n T k)) (fun k => g (ix1 k)) k * W (ix2 k f)

/-- The product the convolution runs over, at token `T`. -/
def zed (X : S4x4096x1024.Idx → EReal) (g : S1024.Idx → EReal) (W : S1024x8192.Idx → EReal) (n : Fin 4) (T : Fin 4096) (l : Fin 1024) : EReal :=
  proj X g W n T ⟨1024 + l.val, by omega⟩ * proj X g W n T ⟨2048 + l.val, by omega⟩

/-- The convolution of three taps over the tokens, zero outside. -/
def conv (X : S4x4096x1024.Idx → EReal) (g : S1024.Idx → EReal) (W : S1024x8192.Idx → EReal) (C : S3x1024.Idx → EReal) (n : Fin 4) (T : Fin 4096) (l : Fin 1024) : EReal :=
  (if T.val = 0 then 0 else zed X g W n ⟨(T.val + 4095) % 4096, by omega⟩ l) * C (ix2 0 l)
    + zed X g W n T l * C (ix2 1 l)
    + (if T.val = 4095 then 0 else zed X g W n ⟨(T.val + 1) % 4096, by omega⟩ l) * C (ix2 2 l)

/-- The two branches of token `T`, merged and mapped. -/
def mixed (X A : S4x4096x1024.Idx → EReal) (g : S1024.Idx → EReal) (W : S1024x8192.Idx → EReal) (b : S2048.Idx → EReal) (C : S3x1024.Idx → EReal)
    (wc wa wo : S1024x1024.Idx → EReal) (n : Fin 4) (T : Fin 4096) : Fin 1024 → EReal :=
  mergeRow (fun l => proj X g W n T ⟨l.val, by omega⟩ * conv X g W C n T l) (fun k => A (ix3 n T k))
    (fun f => proj X g W n T ⟨6144 + f.val, by omega⟩ + b (ix1 f)) (fun k j => wc (ix2 k j)) (fun k j => wa (ix2 k j)) (fun k j => wo (ix2 k j))

/-- The mixing half of the layer at token `T` and lane `l`. -/
def half (X A : S4x4096x1024.Idx → EReal) (g h : S1024.Idx → EReal) (W : S1024x8192.Idx → EReal) (b : S2048.Idx → EReal) (C : S3x1024.Idx → EReal)
    (wc wa wo : S1024x1024.Idx → EReal) (n : Fin 4) (T : Fin 4096) (l : Fin 1024) : EReal :=
  X (ix3 n T l) + rmsRow (mixed X A g W b C wc wa wo n T) (fun k => h (ix1 k)) l

/-- The normalized rows. -/
theorem pay4_apply (x : Vec Ideal S1x512x1024 .f32) (g : Vec Ideal S1x1024 .f32) (r : Fin 512) (l : Fin 1024) :
    k0_pay4 (F := Ideal) x g (ix2 r l) = rmsRow (fun k => x (ix3 0 r k)) (fun k => g (ix2 0 k)) l := by
  pointwise [k0_pay4, k0_pay2, k0_pay3, rmsRow]

/-- The normalized rows' products with the convolution branch's weights. -/
theorem pay5_apply (x : Vec Ideal S1x512x1024 .f32) (g : Vec Ideal S1x1024 .f32) (w : Vec Ideal S1024x3072 .bf16) (r : Fin 512) (l : Fin 3072) :
    k0_pay5 (F := Ideal) x g w (ix2 r l) = ∑ k, rmsRow (fun k => x (ix3 0 r k)) (fun k => g (ix2 0 k)) k * w (ix2 k l) := by
  simp only [← pay4_apply]
  unfold k0_pay5
  generalize k0_pay4 (F := Ideal) x g = a
  pointwise

/-- The branch's own gate. -/
theorem pay6_apply (x : Vec Ideal S1x512x1024 .f32) (g : Vec Ideal S1x1024 .f32) (w : Vec Ideal S1024x3072 .bf16) (r : Fin 512) (l : Fin 1024) :
    k0_pay6 (F := Ideal) x g w (ix2 r l) = ∑ k, rmsRow (fun k => x (ix3 0 r k)) (fun k => g (ix2 0 k)) k * w (ix2 k ⟨l.val, by omega⟩) := by
  rw [← pay5_apply]
  unfold k0_pay6
  generalize k0_pay5 (F := Ideal) x g w = a
  pointwise

/-- The product the convolution runs over. -/
theorem pay7_apply (x : Vec Ideal S1x512x1024 .f32) (g : Vec Ideal S1x1024 .f32) (w : Vec Ideal S1024x3072 .bf16) (r : Fin 512) (l : Fin 1024) :
    k0_pay7 (F := Ideal) x g w (ix2 r l) = (∑ k, rmsRow (fun k => x (ix3 0 r k)) (fun k => g (ix2 0 k)) k * w (ix2 k ⟨1024 + l.val, by omega⟩))
      * ∑ k, rmsRow (fun k => x (ix3 0 r k)) (fun k => g (ix2 0 k)) k * w (ix2 k ⟨2048 + l.val, by omega⟩) := by
  rw [← pay5_apply, ← pay5_apply]
  unfold k0_pay7
  generalize k0_pay5 (F := Ideal) x g w = a
  pointwise

/-- The last of the eight rows before the block. -/
theorem pay8_before (p n : Vec Ideal S1x8x1024 .f32) (l : Fin 1024) : k0_pay8 (F := Ideal) p n (ix2 7 l) = p (ix3 0 7 l) := by
  pointwise [k0_pay8]

/-- The first of the eight rows after the block. -/
theorem pay8_after (p n : Vec Ideal S1x8x1024 .f32) (l : Fin 1024) : k0_pay8 (F := Ideal) p n (ix2 8 l) = n (ix3 0 0 l) := by
  pointwise [k0_pay8]

/-- The factor that normalizes a neighbouring row. -/
theorem pay9_apply (p n : Vec Ideal S1x8x1024 .f32) (a : Fin 16) (l : Fin 1024) : k0_pay9 (F := Ideal) p n (ix2 a l)
    = Ideal.rsqrt (Ideal.div (∑ k, k0_pay8 (F := Ideal) p n (ix2 a k) * k0_pay8 (F := Ideal) p n (ix2 a k)) (Ideal.ofBits FTy.f32 0x44800000#32) + Ideal.ofBits FTy.f32 0x358637BD#32) := by
  unfold k0_pay9
  generalize k0_pay8 (F := Ideal) p n = x
  pointwise

/-- The convolution's product at a neighbouring row. -/
def halo (g : FVec Ideal S1x1024 .f32) (x f : FVec Ideal S16x1024 .f32) (w : Vec Ideal S1024x2048 .bf16) (a : Fin 16) (l : Fin 1024) : EReal :=
  (∑ k : Fin 1024, x (ix2 a k) * f (ix2 a k) * g (ix2 0 k) * w (ix2 k ⟨l.val, by omega⟩))
    * ∑ k : Fin 1024, x (ix2 a k) * f (ix2 a k) * g (ix2 0 k) * w (ix2 k ⟨1024 + l.val, by omega⟩)

theorem sel {α : Type} (c : BitVec 1) (a b : α) : Scalar.select c a b = if c = 1#1 then a else b := rfl

/-- The convolution over a block, its first and last rows reaching into the neighbours. -/
theorem pay10_apply (i : BitVec 32) (g : FVec Ideal S1x1024 .f32) (z : FVec Ideal S512x1024 .f32) (x f : FVec Ideal S16x1024 .f32)
    (w : Vec Ideal S1024x2048 .bf16) (cw : Vec Ideal S3x1024 .f32) (r : Fin 512) (l : Fin 1024) :
    k0_pay10 (F := Ideal) i g z x f w cw (ix2 r l)
      = (if r.val = 0 then (if Scalar.cmpi .sgt i 0#32 = 1#1 then halo g x f w 7 l else 0) else z (ix2 ⟨(r.val + 511) % 512, by omega⟩ l)) * cw (ix2 0 l)
        + z (ix2 r l) * cw (ix2 1 l)
        + (if r.val = 511 then (if Scalar.cmpi .slt i 7#32 = 1#1 then halo g x f w 8 l else 0) else z (ix2 ⟨(r.val + 1) % 512, by omega⟩ l)) * cw (ix2 2 l) := by
  have e0 : IntOp.cmpi .eq (BitVec.ofNat 32 r.val) 0#32 = 1#1 ↔ r.val = 0 := by
    rw [Idealize.ShloMosaic.WordCmp.cmpi_eq_eq_toNat]
    simp only [BitVec.toNat_ofNat, Nat.zero_mod]
    rw [Nat.mod_eq_of_lt (by omega)]
    by_cases h : r.val = 0 <;> simp [h]
  have e1 : IntOp.cmpi .eq (BitVec.ofNat 32 r.val) 511#32 = 1#1 ↔ r.val = 511 := by
    rw [Idealize.ShloMosaic.WordCmp.cmpi_eq_eq_toNat]
    simp only [BitVec.toNat_ofNat]
    rw [Nat.mod_eq_of_lt (by omega)]
    by_cases h : r.val = 511 <;> simp [h]
  pointwise [k0_pay10, halo]
  simp only [sel, e0, e1]
  rfl

/-- The gains before the linear maps. -/
theorem pay3_apply (g : Vec Ideal S1x1024 .f32) (k : Fin 1024) : k0_pay3 (F := Ideal) g (ix2 0 k) = g (ix2 0 k) := by
  pointwise [k0_pay3]

/-- A neighbouring row's product, from its normalized row. -/
theorem halo_row (g : FVec Ideal S1x1024 .f32) (p n : Vec Ideal S1x8x1024 .f32) (w : Vec Ideal S1024x2048 .bf16) (a : Fin 16) (l : Fin 1024) :
    halo g (k0_pay8 p n) (k0_pay9 p n) w a l
      = (∑ k : Fin 1024, rmsRow (fun k => k0_pay8 (F := Ideal) p n (ix2 a k)) (fun k => g (ix2 0 k)) k * w (ix2 k ⟨l.val, by omega⟩))
        * ∑ k : Fin 1024, rmsRow (fun k => k0_pay8 (F := Ideal) p n (ix2 a k)) (fun k => g (ix2 0 k)) k * w (ix2 k ⟨1024 + l.val, by omega⟩) := by
  unfold halo
  simp only [pay9_apply]
  rfl

/-- The merged branches through the last linear map. -/
theorem pay11_apply (u : FVec Ideal S512x1024 .bf16) (cb cv : FVec Ideal S512x1024 .f32) (wc : Vec Ideal S1024x1024 .bf16) (a : Vec Ideal S1x512x1024 .bf16)
    (wa : Vec Ideal S1024x1024 .bf16) (wg : Vec Ideal S1024x2048 .bf16) (bg : Vec Ideal S1x2048 .f32) (wo : Vec Ideal S1024x1024 .bf16) (r : Fin 512) (l : Fin 1024) :
    k0_pay11 (F := Ideal) u cb cv wc a wa wg bg wo (ix2 r l)
      = mergeRow (fun k => cb (ix2 r k) * cv (ix2 r k)) (fun k => a (ix3 0 r k)) (fun f => (∑ k : Fin 1024, u (ix2 r k) * wg (ix2 k f)) + bg (ix2 0 f))
          (fun k j => wc (ix2 k j)) (fun k j => wa (ix2 k j)) (fun k j => wo (ix2 k j)) l := by
  pointwise [k0_pay11, mergeRow]

/-- The block's result from the mixed rows. -/
theorem pay1_apply (x : Vec Ideal S1x512x1024 .f32) (h : Vec Ideal S1x1024 .f32) (u : FVec Ideal S512x1024 .bf16) (cb cv : FVec Ideal S512x1024 .f32) (wc : Vec Ideal S1024x1024 .bf16) (a : Vec Ideal S1x512x1024 .bf16)
    (wa : Vec Ideal S1024x1024 .bf16) (wg : Vec Ideal S1024x2048 .bf16) (bg : Vec Ideal S1x2048 .f32) (wo : Vec Ideal S1024x1024 .bf16) (r : Fin 512) (l : Fin 1024) :
    k0_pay1 (F := Ideal) (k0_pay2 x) (k0_pay11 u cb cv wc a wa wg bg wo) (k0_pay12 h) (k0_pay13 u cb cv wc a wa wg bg wo) (ix3 0 r l)
      = x (ix3 0 r l) + rmsRow (fun k => k0_pay11 (F := Ideal) u cb cv wc a wa wg bg wo (ix2 r k)) (fun k => h (ix2 0 k)) l := by
  unfold k0_pay13
  generalize k0_pay11 (F := Ideal) u cb cv wc a wa wg bg wo = y
  pointwise [k0_pay1, k0_pay2, k0_pay12, rmsRow]

end Cert.MixIdeal.Proved
end
-- ==== Proof.MixArray.lean ====
module

public import proofs.«01_k».proof.Proof.MixBlock

/-! What the mixing kernel's result array holds: the mixing half of the layer at every token and lane. -/

@[expose] public section
set_option maxRecDepth 16384
noncomputable section
open Idealize Idealize.ShloMosaic
open scoped BigOperators
namespace Cert.MixIdeal.Proved
open Cert.MixIdeal Cert.MixIdeal.Gen
open Cert.FfnIdeal.Proved (rmsRow)

variable (m : (ℓ : Loc nD τ sig) → Buf (Elt Ideal) ℓ) (c : Dev nD)

/-- Where each window stands at grid point `t`. -/
theorem idx : ∀ t : Fin grid0.N, (win0_0.index t = ![(grid0.coords t 0).val, (grid0.coords t 1).val, 0] ∧ win0_3.index t = ![(grid0.coords t 0).val, (grid0.coords t 1).val, 0]
      ∧ win0_13.index t = ![(grid0.coords t 0).val, (grid0.coords t 1).val, 0])
    ∧ (win0_1.index t = ![(grid0.coords t 0).val, 64 * (grid0.coords t 1).val - 1, 0] ∧ win0_2.index t = ![(grid0.coords t 0).val, min (64 * (grid0.coords t 1).val + 64) 511, 0])
    ∧ (win0_4.index t = ![0, 0] ∧ win0_5.index t = ![0, 0] ∧ win0_6.index t = ![0, 0] ∧ win0_7.index t = ![0, 0] ∧ win0_8.index t = ![0, 0])
    ∧ win0_9.index t = ![0, 0] ∧ win0_10.index t = ![0, 0] ∧ win0_11.index t = ![0, 0] ∧ win0_12.index t = ![0, 0] := by
  decide +kernel

/-- The batch element of grid point `t`. -/
def bat (t : Fin cfg0.N) : Fin 4 := ⟨(grid0.coords t 0).val, (grid0.coords t 0).isLt⟩
/-- The block of tokens of grid point `t`. -/
def blk (t : Fin cfg0.N) : Fin 8 := ⟨(grid0.coords t 1).val, (grid0.coords t 1).isLt⟩
/-- Token `r` of the block of grid point `t`. -/
def tok (t : Fin cfg0.N) (r : Fin 512) : Fin 4096 := ⟨(blk t).val * 512 + r.val, by omega⟩

theorem iblk0 (t : Fin cfg0.N) (r : Fin 512) (l : Fin 1024) : iblk m c 0 t (ix3 0 r l) = m ((c.tc : Thread nD τ).loc main_arg0) (ix3 (bat t) (tok t r) l) := by
  unfold tok bat blk
  blk_ext! [iblk, V, idx t]

theorem iblk3 (t : Fin cfg0.N) (r : Fin 512) (l : Fin 1024) : iblk m c 3 t (ix3 0 r l) = m ((c.tc : Thread nD τ).loc main_arg1) (ix3 (bat t) (tok t r) l) := by
  unfold tok bat blk
  blk_ext! [iblk, V, idx t]

theorem iblk1 (t : Fin cfg0.N) (r : Fin 8) (l : Fin 1024) : iblk m c 1 t (ix3 0 r l)
    = m ((c.tc : Thread nD τ).loc main_arg0) (ix3 (bat t) ⟨(64 * (blk t).val - 1) * 8 + r.val, by omega⟩ l) := by
  unfold bat blk
  blk_ext! [iblk, V, idx t]

theorem iblk2 (t : Fin cfg0.N) (r : Fin 8) (l : Fin 1024) : iblk m c 2 t (ix3 0 r l)
    = m ((c.tc : Thread nD τ).loc main_arg0) (ix3 (bat t) ⟨min (64 * (blk t).val + 64) 511 * 8 + r.val, by omega⟩ l) := by
  unfold bat blk
  blk_ext! [iblk, V, idx t]

theorem iblk4 (t : Fin cfg0.N) (k : Fin 1024) : iblk m c 4 t (ix2 0 k) = m ((c.tc : Thread nD τ).loc main_arg2) (ix1 k) := by
  blk_ext! [iblk, V, idx t]

theorem iblk5 (t : Fin cfg0.N) (k : Fin 1024) : iblk m c 5 t (ix2 0 k) = m ((c.tc : Thread nD τ).loc main_arg3) (ix1 k) := by
  blk_ext! [iblk, V, idx t]

theorem iblk6 (t : Fin cfg0.N) (k : Fin 1024) (f : Fin 3072) : iblk m c 6 t (ix2 k f) = m ((c.tc : Thread nD τ).loc main_arg4) (ix2 k ⟨f.val, by omega⟩) := by
  blk_ext! [iblk, V, idx t]

theorem iblk7 (t : Fin cfg0.N) (k : Fin 1024) (f : Fin 2048) : iblk m c 7 t (ix2 k f) = m ((c.tc : Thread nD τ).loc main_arg4) (ix2 k ⟨6144 + f.val, by omega⟩) := by
  blk_ext! [iblk, V, idx t]

theorem iblk8 (t : Fin cfg0.N) (f : Fin 2048) : iblk m c 8 t (ix2 0 f) = m ((c.tc : Thread nD τ).loc main_arg5) (ix1 f) := by
  blk_ext! [iblk, V, idx t]

theorem iblk9 (t : Fin cfg0.N) (a : Fin 3) (l : Fin 1024) : iblk m c 9 t (ix2 a l) = m ((c.tc : Thread nD τ).loc main_arg6) (ix2 a l) := by
  blk_ext! [iblk, V, idx t]

theorem iblk10 (t : Fin cfg0.N) (k j : Fin 1024) : iblk m c 10 t (ix2 k j) = m ((c.tc : Thread nD τ).loc main_arg7) (ix2 k j) := by
  blk_ext! [iblk, V, idx t]

theorem iblk11 (t : Fin cfg0.N) (k j : Fin 1024) : iblk m c 11 t (ix2 k j) = m ((c.tc : Thread nD τ).loc main_arg8) (ix2 k j) := by
  blk_ext! [iblk, V, idx t]

theorem iblk12 (t : Fin cfg0.N) (k j : Fin 1024) : iblk m c 12 t (ix2 k j) = m ((c.tc : Thread nD τ).loc main_arg9) (ix2 k j) := by
  blk_ext! [iblk, V, idx t]

/-- The weights of the convolution's two factors. -/
theorem part_apply (x : Vec Ideal S1024x3072 .bf16) (k : Fin 1024) (f : Fin 2048) : View.ld x r0_4 (ix2 k f) = x (ix2 k ⟨1024 + f.val, by omega⟩) := by
  refine View.ld_unit_apply_of _ _ _ _ _ _ ?_
  intro a; fin_cases a <;> simp

/-- The columns of the combined projection a block computes. -/
theorem cols (t : Fin cfg0.N) (r : Fin 512) (f : Fin 3072) :
    (∑ k : Fin 1024, rmsRow (fun k => iblk m c 0 t (ix3 0 r k)) (fun k => iblk m c 4 t (ix2 0 k)) k * iblk m c 6 t (ix2 k f))
      = proj (m ((c.tc : Thread nD τ).loc main_arg0)) (m ((c.tc : Thread nD τ).loc main_arg2)) (m ((c.tc : Thread nD τ).loc main_arg4)) (bat t) (tok t r) ⟨f.val, by omega⟩ := by
  simp only [iblk0, iblk4, iblk6]
  rfl

/-- The convolution's product inside a block. -/
theorem inner (t : Fin cfg0.N) (r : Fin 512) (l : Fin 1024) :
    k0_pay7 (F := Ideal) (iblk m c 0 t) (iblk m c 4 t) (iblk m c 6 t) (ix2 r l)
      = zed (m ((c.tc : Thread nD τ).loc main_arg0)) (m ((c.tc : Thread nD τ).loc main_arg2)) (m ((c.tc : Thread nD τ).loc main_arg4)) (bat t) (tok t r) l := by
  rw [pay7_apply, cols, cols]
  rfl

/-- The convolution's product at a token of a neighbouring block. -/
theorem outer (t : Fin cfg0.N) (a : Fin 16) (T : Fin 4096) (l : Fin 1024)
    (h : ∀ k : Fin 1024, k0_pay8 (F := Ideal) (iblk m c 1 t) (iblk m c 2 t) (ix2 a k) = m ((c.tc : Thread nD τ).loc main_arg0) (ix3 (bat t) T k)) :
    halo (k0_pay3 (F := Ideal) (iblk m c 4 t)) (k0_pay8 (iblk m c 1 t) (iblk m c 2 t)) (k0_pay9 (iblk m c 1 t) (iblk m c 2 t)) (View.ld (iblk m c 6 t) r0_4) a l
      = zed (m ((c.tc : Thread nD τ).loc main_arg0)) (m ((c.tc : Thread nD τ).loc main_arg2)) (m ((c.tc : Thread nD τ).loc main_arg4)) (bat t) T l := by
  rw [halo_row]
  simp only [h, pay3_apply, iblk4]
  unfold zed proj
  refine congrArg₂ (· * ·) (Finset.sum_congr rfl fun k _ => congrArg₂ (fun a b : EReal => a * b) rfl ?_) (Finset.sum_congr rfl fun k _ => congrArg₂ (fun a b : EReal => a * b) rfl ?_)
  · exact (part_apply _ _ _).trans (iblk6 m c t _ _)
  · refine ((part_apply _ _ _).trans (iblk6 m c t _ _)).trans ?_
    refine congrArg (fun f : Fin 8192 => m ((c.tc : Thread nD τ).loc main_arg4) (ix2 k f)) (Fin.ext ?_)
    simp only <;> omega

theorem first : ∀ a : Fin 8, Scalar.cmpi .sgt (BitVec.ofNat 32 a.val) 0#32 = 1#1 ↔ 0 < a.val := by decide
theorem last : ∀ a : Fin 8, Scalar.cmpi .slt (BitVec.ofNat 32 a.val) 7#32 = 1#1 ↔ a.val < 7 := by decide

/-- The convolution over a block is the convolution over all tokens. -/
theorem convs (t : Fin cfg0.N) (r : Fin 512) (l : Fin 1024) :
    k0_pay10 (F := Ideal) (BitVec.ofNat 32 (grid0.coords t 1).val) (k0_pay3 (iblk m c 4 t)) (k0_pay7 (iblk m c 0 t) (iblk m c 4 t) (iblk m c 6 t))
        (k0_pay8 (iblk m c 1 t) (iblk m c 2 t)) (k0_pay9 (iblk m c 1 t) (iblk m c 2 t)) (View.ld (iblk m c 6 t) r0_4) (iblk m c 9 t) (ix2 r l)
      = conv (m ((c.tc : Thread nD τ).loc main_arg0)) (m ((c.tc : Thread nD τ).loc main_arg2)) (m ((c.tc : Thread nD τ).loc main_arg4)) (m ((c.tc : Thread nD τ).loc main_arg6)) (bat t) (tok t r) l := by
  have f0 : Scalar.cmpi .sgt (BitVec.ofNat 32 (grid0.coords t 1).val) 0#32 = 1#1 ↔ 0 < (blk t).val := first (blk t)
  have f1 : Scalar.cmpi .slt (BitVec.ofNat 32 (grid0.coords t 1).val) 7#32 = 1#1 ↔ (blk t).val < 7 := last (blk t)
  rw [pay10_apply]
  simp only [inner, f0, f1, iblk9]
  unfold conv
  have hv : (tok t r).val = (blk t).val * 512 + r.val := rfl
  have hb := (blk t).isLt
  refine congrArg₂ (· + ·) (congrArg₂ (· + ·) (congrArg (· * _) ?_) rfl) (congrArg (· * _) ?_)
  · by_cases h : r.val = 0
    · rw [if_pos h]
      by_cases h' : 0 < (blk t).val
      · rw [if_pos h', if_neg (by omega)]
        refine outer m c t 7 _ l fun k => (pay8_before _ _ k).trans ((iblk1 m c t 7 k).trans ?_)
        refine congrArg (fun T : Fin 4096 => m ((c.tc : Thread nD τ).loc main_arg0) (ix3 (bat t) T k)) (Fin.ext ?_)
        show (64 * (blk t).val - 1) * 8 + 7 = ((tok t r).val + 4095) % 4096
        omega
      · rw [if_neg h', if_pos (by omega)]
    · rw [if_neg h, if_neg (by omega)]
      refine congrArg (fun T : Fin 4096 => zed _ _ _ (bat t) T l) (Fin.ext ?_)
      show (blk t).val * 512 + (r.val + 511) % 512 = ((tok t r).val + 4095) % 4096
      omega
  · by_cases h : r.val = 511
    · rw [if_pos h]
      by_cases h' : (blk t).val < 7
      · rw [if_pos h', if_neg (by omega)]
        refine outer m c t 8 _ l fun k => (pay8_after _ _ k).trans ((iblk2 m c t 0 k).trans ?_)
        refine congrArg (fun T : Fin 4096 => m ((c.tc : Thread nD τ).loc main_arg0) (ix3 (bat t) T k)) (Fin.ext ?_)
        show min (64 * (blk t).val + 64) 511 * 8 + 0 = ((tok t r).val + 1) % 4096
        omega
      · rw [if_neg h', if_pos (by omega)]
    · rw [if_neg h, if_neg (by omega)]
      refine congrArg (fun T : Fin 4096 => zed _ _ _ (bat t) T l) (Fin.ext ?_)
      show (blk t).val * 512 + (r.val + 1) % 512 = ((tok t r).val + 1) % 4096
      omega

/-- The mixing half on the kernel's arguments. -/
def outv (n : Fin 4) (T : Fin 4096) (l : Fin 1024) : EReal :=
  half (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) n T l

/-- The block of merged branches at grid point `t`. -/
def merged (t : Fin cfg0.N) (f : FVec Ideal S512x1024 .bf16 → FVec Ideal S512x1024 .f32 → FVec Ideal S512x1024 .f32 → Vec Ideal S1024x1024 .bf16 → Vec Ideal S1x512x1024 .bf16
    → Vec Ideal S1024x1024 .bf16 → Vec Ideal S1024x2048 .bf16 → Vec Ideal S1x2048 .f32 → Vec Ideal S1024x1024 .bf16 → FVec Ideal S512x1024 .f32) : FVec Ideal S512x1024 .f32 :=
  f (k0_pay4 (iblk m c 0 t) (iblk m c 4 t)) (k0_pay6 (iblk m c 0 t) (iblk m c 4 t) (iblk m c 6 t))
    (k0_pay10 (BitVec.ofNat 32 (grid0.coords t 1).val) (k0_pay3 (iblk m c 4 t)) (k0_pay7 (iblk m c 0 t) (iblk m c 4 t) (iblk m c 6 t))
        (k0_pay8 (iblk m c 1 t) (iblk m c 2 t)) (k0_pay9 (iblk m c 1 t) (iblk m c 2 t)) (View.ld (iblk m c 6 t) r0_4) (iblk m c 9 t))
    (iblk m c 10 t) (iblk m c 3 t) (iblk m c 11 t) (iblk m c 7 t) (iblk m c 8 t) (iblk m c 12 t)

theorem merge_congr {c c' a a' : Fin 1024 → EReal} {g g' : Fin 2048 → EReal} {wc wc' wa wa' wo wo' : Fin 1024 → Fin 1024 → EReal}
    (hc : ∀ k, c k = c' k) (ha : ∀ k, a k = a' k) (hg : ∀ f, g f = g' f) (h1 : ∀ k j, wc k j = wc' k j) (h2 : ∀ k j, wa k j = wa' k j)
    (h3 : ∀ k j, wo k j = wo' k j) (l : Fin 1024) : mergeRow c a g wc wa wo l = mergeRow c' a' g' wc' wa' wo' l := by
  obtain rfl : c = c' := funext hc
  obtain rfl : a = a' := funext ha
  obtain rfl : g = g' := funext hg
  obtain rfl : wc = wc' := funext fun k => funext (h1 k)
  obtain rfl : wa = wa' := funext fun k => funext (h2 k)
  obtain rfl : wo = wo' := funext fun k => funext (h3 k)
  rfl

/-- The merged branches of a block are those of its tokens. -/
theorem merged_apply (t : Fin cfg0.N) (r : Fin 512) (l : Fin 1024) : merged m c t (k0_pay11 (F := Ideal)) (ix2 r l)
    = mixed (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (bat t) (tok t r) l := by
  unfold merged mixed
  refine (pay11_apply _ _ _ _ _ _ _ _ _ r l).trans (merge_congr (fun k => ?_) (fun k => iblk3 m c t r k) (fun f => ?_)
    (fun k j => iblk10 m c t k j) (fun k j => iblk11 m c t k j) (fun k j => iblk12 m c t k j) l)
  · exact congrArg₂ (fun a b : EReal => a * b) ((pay6_apply _ _ _ r k).trans (cols m c t r _)) (convs m c t r k)
  · refine congrArg₂ (fun a b : EReal => a + b) (Finset.sum_congr rfl fun k _ => ?_) (iblk8 m c t f)
    refine congrArg₂ (fun a b : EReal => a * b) ((pay4_apply _ _ r k).trans ?_) (iblk7 m c t k f)
    simp only [iblk0, iblk4]

/-- What grid point `t` stores at row `r` of its block is the mixing half at that token. -/
theorem point (t : Fin cfg0.N) (r : Fin 512) (l : Fin 1024) :
    k0_pay1 (F := Ideal) (k0_pay2 (iblk m c 0 t)) (merged m c t (k0_pay11 (F := Ideal))) (k0_pay12 (iblk m c 5 t)) (merged m c t (k0_pay13 (F := Ideal))) (ix3 0 r l)
      = outv m c (bat t) (tok t r) l := by
  refine (pay1_apply _ _ _ _ _ _ _ _ _ _ _ _ _).trans ?_
  simp only [iblk0, iblk5]
  unfold outv half
  refine congrArg (fun e : EReal => _ + e) (congrArg (fun y => rmsRow y _ l) (funext fun k => ?_))
  exact merged_apply m c t r k

end Cert.MixIdeal.Proved
end
-- ==== Proof.MixRef.lean ====
module

public import proofs.«01_k».proof.Proof.MixBlock
public import proofs.«01_k».proof.Proof.Gen.RefMixIdeal.Read

/-! The reference's mixing half, stage by stage, at one token and lane. -/

@[expose] public section
set_option maxRecDepth 16384
noncomputable section
open Idealize Idealize.ShloMosaic
open scoped BigOperators
namespace Cert.MixIdeal.Proved
open Cert.RefMixIdeal Cert.RefMixIdeal.Gen Cert.RefMixIdeal.Read
open Cert.FfnIdeal.Proved (rmsRow)

/-- The normalized tokens. -/
theorem ref12_apply (x0 x2) (n : Fin 4) (T : Fin 4096) (l : Fin 1024) :
    val_main_v12 (F := Ideal) x0 x2 (ix3 n T l) = rmsRow (fun k => x0 (ix3 n T k)) (fun k => x2 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

/-- The combined projection. -/
theorem ref13_apply (x0 x2 x4) (n : Fin 4) (T : Fin 4096) (f : Fin 8192) :
    val_main_v13 (F := Ideal) x0 x2 x4 (ix3 n T f) = proj x0 x2 x4 n T f := by
  pointwise [val_main_v13, proj, ref12_apply]

/-- The branch's own gate. -/
theorem ref14_apply (x0 x2 x4) (n : Fin 4) (T : Fin 4096) (l : Fin 1024) :
    val_main_v14 (F := Ideal) x0 x2 x4 (ix3 n T l) = proj x0 x2 x4 n T ⟨l.val, by omega⟩ := by
  rw [← ref13_apply]
  unfold val_main_v14
  generalize val_main_v13 (F := Ideal) x0 x2 x4 = a
  pointwise

/-- The product the convolution runs over. -/
theorem ref21_apply (x0 x2 x4) (n : Fin 4) (T : Fin 4096) (l : Fin 1024) :
    val_main_v21 (F := Ideal) x0 x2 x4 (ix3 n T l) = zed x0 x2 x4 n T l := by
  unfold zed
  rw [← ref13_apply, ← ref13_apply]
  unfold val_main_v21 val_main_v15 val_main_v16
  generalize val_main_v13 (F := Ideal) x0 x2 x4 = a
  pointwise

/-- The gates' columns. -/
theorem ref20_apply (x0 x2 x4) (n : Fin 4) (T : Fin 4096) (f : Fin 2048) :
    val_main_v20 (F := Ideal) x0 x2 x4 (ix3 n T f) = proj x0 x2 x4 n T ⟨6144 + f.val, by omega⟩ := by
  rw [← ref13_apply]
  unfold val_main_v20
  generalize val_main_v13 (F := Ideal) x0 x2 x4 = a
  pointwise

/-- The convolution. -/
theorem ref42_apply (x0 x2 x4 x6) (n : Fin 4) (T : Fin 4096) (l : Fin 1024) :
    val_main_v42 (F := Ideal) x0 x2 x4 x6 (ix3 n T l) = conv x0 x2 x4 x6 n T l := by
  unfold conv
  simp only [← ref21_apply]
  unfold val_main_v42 val_main_v41 val_main_v36 val_main_v35 val_main_v34 val_main_v29 val_main_v28 val_main_v23 val_main_v22
  generalize val_main_v21 (F := Ideal) x0 x2 x4 = a
  pointwise [val_main_v24, val_main_v25, val_main_v26, val_main_v27, val_main_v30, val_main_v31, val_main_v32, val_main_v33, val_main_v37, val_main_v38, val_main_v39, val_main_v40, val_main_call0_v0, val_main_c]
  have z : FloatOps.sitofp (F := Ideal) FTy.f32 0#32 = (0 : EReal) := by
    show (((0#32 : BitVec 32).toInt : ℝ) : EReal) = 0
    simp
  rw [z]
  refine congrArg₂ (· + ·) (congrArg₂ (· + ·) (congrArg (· * _) ?_) rfl) (congrArg (· * _) ?_)
  · by_cases h : T.val = 0
    · rw [if_pos h, dif_neg (by omega)]
    · rw [if_neg h, dif_pos (by omega)]
      refine congrArg (fun T : Fin 4096 => a (ix3 n T l)) (Fin.ext ?_)
      simp only <;> omega
  · by_cases h : T.val = 4095
    · rw [if_pos h, dif_neg (by omega)]
    · rw [if_neg h, dif_pos (by omega)]
      refine congrArg (fun T : Fin 4096 => a (ix3 n T l)) (Fin.ext ?_)
      simp only <;> omega

/-- The merged branches through the last linear map. -/
theorem ref61_apply (x0 x1 x2 x4 x5 x6 x7 x8 x9) (n : Fin 4) (T : Fin 4096) (l : Fin 1024) :
    val_main_v61 (F := Ideal) x0 x1 x2 x4 x5 x6 x7 x8 x9 (ix3 n T l) = mixed x0 x1 x2 x4 x5 x6 x7 x8 x9 n T l := by
  unfold mixed
  simp only [← ref42_apply, ← ref14_apply, ← ref20_apply]
  unfold val_main_v61 val_main_v60 val_main_v59 val_main_v58 val_main_v57 val_main_v56 val_main_v55 val_main_v53 val_main_v51 val_main_v50 val_main_v49 val_main_v46 val_main_v44 val_main_v43
  generalize val_main_v42 (F := Ideal) x0 x2 x4 x6 = a
  generalize val_main_v14 (F := Ideal) x0 x2 x4 = b
  generalize val_main_v20 (F := Ideal) x0 x2 x4 = d
  pointwise [val_main_v45, val_main_v47, val_main_v48, val_main_v52, val_main_v54, val_main_cst_2, val_main_cst_3, mergeRow]
  rfl

/-- The reference's result. -/
theorem ref_apply (x0 x1 x2 x3 x4 x5 x6 x7 x8 x9) (n : Fin 4) (T : Fin 4096) (l : Fin 1024) :
    val_main_v75 (F := Ideal) x0 x1 x2 x3 x4 x5 x6 x7 x8 x9 (ix3 n T l) = half x0 x1 x2 x3 x4 x5 x6 x7 x8 x9 n T l := by
  unfold half
  have e : mixed x0 x1 x2 x4 x5 x6 x7 x8 x9 n T = fun l => val_main_v61 (F := Ideal) x0 x1 x2 x4 x5 x6 x7 x8 x9 (ix3 n T l) :=
    funext fun l => (ref61_apply x0 x1 x2 x4 x5 x6 x7 x8 x9 n T l).symm
  rw [e]
  unfold val_main_v75 val_main_v74 val_main_v71 val_main_v70 val_main_v69 val_main_v68 val_main_v66 val_main_v64 val_main_v63 val_main_v62
  generalize val_main_v61 (F := Ideal) x0 x1 x2 x4 x5 x6 x7 x8 x9 = a
  pointwise [val_main_v72, val_main_v73, val_main_v65, val_main_v67, val_main_cst_4, val_main_cst_5, val_main_cst_6, rmsRow]

end Cert.MixIdeal.Proved
end
-- ==== Proof.MixClaim.lean ====
module

public import proofs.«01_k».proof.Defs
public import proofs.«01_k».proof.Proof.MixArray
public import proofs.«01_k».proof.Proof.MixRef
public import proofs.«01_k».proof.Proof.Gen.RefMixIdeal.Run

/-! The mixing half: kernel and reference end holding the same result. -/

@[expose] public section
set_option maxRecDepth 16384
noncomputable section
open Idealize Idealize.ShloMosaic
open scoped BigOperators
namespace Cert.MixIdeal.Proved
open Cert.MixIdeal Cert.MixIdeal.Gen

section
variable (i : grid0.Coords) (x0 : Vec Ideal S1x512x1024 .f32) (x1 x2 : Vec Ideal S1x8x1024 .f32) (x3 : Vec Ideal S1x512x1024 .bf16) (x4 x5 : Vec Ideal S1x1024 .f32)
  (x6 : Vec Ideal S1024x3072 .bf16) (x7 : Vec Ideal S1024x2048 .bf16) (x8 : Vec Ideal S1x2048 .f32) (x9 : Vec Ideal S3x1024 .f32) (x10 x11 x12 : Vec Ideal S1024x1024 .bf16)

theorem ld0 : View.ld x0 r0_0 = x0 := View.ld_unit_lit _ _ (by decide)
theorem ld1 : View.ld x1 r0_3 = x1 := View.ld_unit_lit _ _ (by decide)
theorem ld4 : View.ld x4 r0_1 = x4 := View.ld_unit_lit _ _ (by decide)
theorem ld6 : View.ld x6 r0_2 = x6 := View.ld_unit_lit _ _ (by decide)
theorem ld9 : View.ld x9 r0_5 = x9 := View.ld_unit_lit _ _ (by decide)

theorem pay14_eq : k0_pay14 i x0 x1 x2 x3 x4 x5 x6 x7 x8 x9 x10 x11 x12 = k0_pay4 (F := Ideal) x0 x4 := by
  unfold k0_pay14
  rw [ld0, ld4]

theorem pay15_eq : k0_pay15 i x0 x1 x2 x3 x4 x5 x6 x7 x8 x9 x10 x11 x12 = k0_pay6 (F := Ideal) x0 x4 x6 := by
  unfold k0_pay15
  rw [ld0, ld4, ld6]

theorem pay16_eq : k0_pay16 i x0 x1 x2 x3 x4 x5 x6 x7 x8 x9 x10 x11 x12
    = k0_pay10 (F := Ideal) (BitVec.ofNat 32 (i 1).val) (k0_pay3 x4) (k0_pay7 x0 x4 x6) (k0_pay8 x1 x2) (k0_pay9 x1 x2) (View.ld x6 r0_4) x9 := by
  unfold k0_pay16
  rw [ld0, ld1, ld1, ld4, ld6, ld9]
end

variable (m : (ℓ : Loc nD τ sig) → Buf (Elt Ideal) ℓ) (c : Dev nD)

theorem outv_congr (n n' : Fin 4) (T T' : Fin 4096) (L L' : Fin 1024) (h1 : n.val = n'.val) (h2 : T.val = T'.val) (h3 : L.val = L'.val) :
    outv m c n T L = outv m c n' T' L' := by
  rw [Fin.ext h1, Fin.ext h2, Fin.ext h3]

/-- The result array after the run is the mixing half at every token. -/
theorem result : (dats m 0 c).arrAt 13 cfg0.N = fun i => outv m c (i 0) (i 1) (i 2) := by
  refine (dats m 0 c).arrAt_eq_of_covers 13 _ (by decide +kernel) fun t hf y => ?_
  blk_simp
  rw [after0_13]
  frame_out
  rw [pay14_eq, pay15_eq, pay16_eq]
  revert y
  intro (y : S1x512x1024.Idx)
  idx_vars y
  have hy0 : y0 = 0 := Subsingleton.elim _ _
  subst hy0
  have p := point m c t y1 y2
  unfold merged at p
  refine p.trans (outv_congr m c _ _ _ _ _ _ ?_ ?_ ?_)
  · blk_simp [idx t]
    try simp [bat]
  · blk_simp [idx t]
    try simp [tok, blk]
  · blk_simp [idx t]
    try simp

/-- The mixing half's kernel and reference end holding the same result. -/
theorem algebraic : Cert.algebraic_MixIdeal_RefMixIdeal := by
  pair_intro
  · run_from Cert.MixIdeal.Value.run_blocks m g
  · run_from Cert.RefMixIdeal.Value.run m' g'
    rw [result m c, Cert.RefMixIdeal.Read.val_main_v75_eq m' c]
    obtain ⟨h0, h1, h2, h3, h4, h5, h6, h7, h8, h9⟩ := hagree c
    rw [h0, h1, h2, h3, h4, h5, h6, h7, h8, h9]
    funext y
    revert y
    intro (y : S4x4096x1024.Idx)
    idx_vars y
    exact ref_apply _ _ _ _ _ _ _ _ _ _ _ _ _

end Cert.MixIdeal.Proved
end
-- ==== Proof.QkvClaim.lean ====
module

public import proofs.«01_k».proof.Defs
public import proofs.«01_k».proof.Proof.FfnModel
public import proofs.«01_k».proof.Proof.Gen.QkvIdeal.Value
public import proofs.«01_k».proof.Proof.Gen.RefQkvIdeal.Run
public import proofs.«01_k».proof.Proof.Gen.RefQkvIdeal.Read

/-! The projections to queries, keys and values: kernel and reference end holding the same three arrays. -/

@[expose] public section
set_option maxRecDepth 16384
noncomputable section
open Idealize Idealize.ShloMosaic
open scoped BigOperators
namespace Cert.QkvIdeal.Proved
open Cert.QkvIdeal Cert.QkvIdeal.Gen
open Cert.FfnIdeal.Proved (rmsRow)

/-- Lane `l` of a normalized row's product with the weights. -/
def projRow (x g w : Fin 1024 → EReal) : EReal := ∑ k, rmsRow x g k * w k

/-- The block of products the kernel takes its three results from. -/
theorem pay1_apply (x : Vec Ideal S512x1024 .f32) (g : Vec Ideal S1x1024 .f32) (w : Vec Ideal S1024x3072 .bf16) (r : Fin 512) (l : Fin 3072) :
    k0_pay1 (F := Ideal) x g w (ix2 r l) = projRow (fun k => x (ix2 r k)) (fun k => g (ix2 0 k)) (fun k => w (ix2 k l)) := by
  pointwise [k0_pay1, projRow, rmsRow]

/-- The queries' block. -/
theorem pay2_apply (x : Vec Ideal S512x1024 .f32) (g : Vec Ideal S1x1024 .f32) (w : Vec Ideal S1024x3072 .bf16) (r : Fin 512) (l : Fin 1024) :
    k0_pay2 (F := Ideal) x g w (ix2 r l) = projRow (fun k => x (ix2 r k)) (fun k => g (ix2 0 k)) (fun k => w (ix2 k ⟨l.val, by omega⟩)) := by
  rw [← pay1_apply]
  unfold k0_pay2
  generalize k0_pay1 (F := Ideal) x g w = a
  pointwise

/-- The keys' block. -/
theorem pay3_apply (x : Vec Ideal S512x1024 .f32) (g : Vec Ideal S1x1024 .f32) (w : Vec Ideal S1024x3072 .bf16) (r : Fin 512) (l : Fin 1024) :
    k0_pay3 (F := Ideal) x g w (ix2 r l) = projRow (fun k => x (ix2 r k)) (fun k => g (ix2 0 k)) (fun k => w (ix2 k ⟨1024 + l.val, by omega⟩)) := by
  rw [← pay1_apply]
  unfold k0_pay3
  generalize k0_pay1 (F := Ideal) x g w = a
  pointwise

/-- The values' block. -/
theorem pay4_apply (x : Vec Ideal S512x1024 .f32) (g : Vec Ideal S1x1024 .f32) (w : Vec Ideal S1024x3072 .bf16) (r : Fin 512) (l : Fin 1024) :
    k0_pay4 (F := Ideal) x g w (ix2 r l) = projRow (fun k => x (ix2 r k)) (fun k => g (ix2 0 k)) (fun k => w (ix2 k ⟨2048 + l.val, by omega⟩)) := by
  rw [← pay1_apply]
  unfold k0_pay4
  generalize k0_pay1 (F := Ideal) x g w = a
  pointwise

variable (m : (ℓ : Loc nD τ sig) → Buf (Elt Ideal) ℓ) (c : Dev nD)

/-- Where each window stands at grid point `t`. -/
theorem idx : ∀ t : Fin grid0.N, (win0_0.index t = ![t.val, 0] ∧ win0_1.index t = ![0, 0] ∧ win0_2.index t = ![0, 0])
    ∧ win0_3.index t = ![t.val, 0] ∧ win0_4.index t = ![t.val, 0] ∧ win0_5.index t = ![t.val, 0] := by
  decide +kernel

/-- The rows: block `t` holds rows `512 t` to `512 t + 511`. -/
theorem iblk0 (t : Fin cfg0.N) (r : Fin 512) (k : Fin 1024) :
    iblk m c 0 t (ix2 r k) = m ((c.tc : Thread nD τ).loc main_arg0) (ix2 ⟨t.val * 512 + r.val, by have : t.val < 32 := t.isLt; omega⟩ k) := by
  blk_ext! [iblk, V, idx t]

/-- The gains. -/
theorem iblk1 (t : Fin cfg0.N) (k : Fin 1024) : iblk m c 1 t (ix2 0 k) = m ((c.tc : Thread nD τ).loc main_arg1) (ix1 k) := by
  blk_ext! [iblk, V, idx t]

/-- The three projections' columns of the weights. -/
theorem iblk2 (t : Fin cfg0.N) (k : Fin 1024) (f : Fin 3072) :
    iblk m c 2 t (ix2 k f) = m ((c.tc : Thread nD τ).loc main_arg2) (ix2 k ⟨3072 + f.val, by omega⟩) := by
  blk_ext! [iblk, V, idx t]

/-- Lane `l` of the projection of row `i` to the weights' columns from `o`. -/
def proj (o : Nat) (ho : o + 1024 ≤ 8192) (i : Fin 16384) (l : Fin 1024) : EReal :=
  projRow (fun k => m ((c.tc : Thread nD τ).loc main_arg0) (ix2 i k)) (fun k => m ((c.tc : Thread nD τ).loc main_arg1) (ix1 k))
    (fun k => m ((c.tc : Thread nD τ).loc main_arg2) (ix2 k ⟨o + l.val, by omega⟩))

/-- What grid point `t` stores of the queries. -/
theorem point_q (t : Fin cfg0.N) (r : Fin 512) (l : Fin 1024) :
    k0_pay2 (F := Ideal) (iblk m c 0 t) (iblk m c 1 t) (iblk m c 2 t) (ix2 r l)
      = proj m c 3072 (by decide) ⟨t.val * 512 + r.val, by have : t.val < 32 := t.isLt; omega⟩ l := by
  rw [pay2_apply]
  simp only [iblk0, iblk1, iblk2]
  unfold proj
  refine congrArg (projRow _ _) (funext fun k => congrArg (fun f : Fin 8192 => m ((c.tc : Thread nD τ).loc main_arg2) (ix2 k f)) (Fin.ext ?_))
  simp only <;> omega

/-- The array of queries. -/
theorem result_q : (dats m 0 c).arrAt 3 cfg0.N = fun i => proj m c 3072 (by decide) (i 0) (i 1) := by
  refine (dats m 0 c).arrAt_eq_of_covers 3 _ (by decide +kernel) fun t hf y => ?_
  blk_simp
  rw [after0_3]
  frame_out
  revert y
  intro (y : S512x1024.Idx)
  idx_vars y
  refine (point_q m c t _ _).trans (congrArg₂ (proj m c 3072 (by decide)) (Fin.ext ?_) (Fin.ext ?_))
  · blk_simp [idx t]
    try simp
  · blk_simp [idx t]
    try simp

/-- What grid point `t` stores of the keys. -/
theorem point_k (t : Fin cfg0.N) (r : Fin 512) (l : Fin 1024) :
    k0_pay3 (F := Ideal) (iblk m c 0 t) (iblk m c 1 t) (iblk m c 2 t) (ix2 r l)
      = proj m c 4096 (by decide) ⟨t.val * 512 + r.val, by have : t.val < 32 := t.isLt; omega⟩ l := by
  rw [pay3_apply]
  simp only [iblk0, iblk1, iblk2]
  unfold proj
  refine congrArg (projRow _ _) (funext fun k => congrArg (fun f : Fin 8192 => m ((c.tc : Thread nD τ).loc main_arg2) (ix2 k f)) (Fin.ext ?_))
  simp only <;> omega

/-- The array of keys. -/
theorem result_k : (dats m 0 c).arrAt 4 cfg0.N = fun i => proj m c 4096 (by decide) (i 0) (i 1) := by
  refine (dats m 0 c).arrAt_eq_of_covers 4 _ (by decide +kernel) fun t hf y => ?_
  blk_simp
  rw [after0_4]
  frame_out
  revert y
  intro (y : S512x1024.Idx)
  idx_vars y
  refine (point_k m c t _ _).trans (congrArg₂ (proj m c 4096 (by decide)) (Fin.ext ?_) (Fin.ext ?_))
  · blk_simp [idx t]
    try simp
  · blk_simp [idx t]
    try simp

/-- What grid point `t` stores of the values. -/
theorem point_v (t : Fin cfg0.N) (r : Fin 512) (l : Fin 1024) :
    k0_pay4 (F := Ideal) (iblk m c 0 t) (iblk m c 1 t) (iblk m c 2 t) (ix2 r l)
      = proj m c 5120 (by decide) ⟨t.val * 512 + r.val, by have : t.val < 32 := t.isLt; omega⟩ l := by
  rw [pay4_apply]
  simp only [iblk0, iblk1, iblk2]
  unfold proj
  refine congrArg (projRow _ _) (funext fun k => congrArg (fun f : Fin 8192 => m ((c.tc : Thread nD τ).loc main_arg2) (ix2 k f)) (Fin.ext ?_))
  simp only <;> omega

/-- The array of values. -/
theorem result_v : (dats m 0 c).arrAt 5 cfg0.N = fun i => proj m c 5120 (by decide) (i 0) (i 1) := by
  refine (dats m 0 c).arrAt_eq_of_covers 5 _ (by decide +kernel) fun t hf y => ?_
  blk_simp
  rw [after0_5]
  frame_out
  revert y
  intro (y : S512x1024.Idx)
  idx_vars y
  refine (point_v m c t _ _).trans (congrArg₂ (proj m c 5120 (by decide)) (Fin.ext ?_) (Fin.ext ?_))
  · blk_simp [idx t]
    try simp
  · blk_simp [idx t]
    try simp

open Cert.RefQkvIdeal.Read in
/-- The reference's normalized rows. -/
theorem ref12_apply (x0 x1) (i : Fin 16384) (l : Fin 1024) :
    val_main_v12 (F := Ideal) x0 x1 (ix2 i l) = rmsRow (fun k => x0 (ix2 i k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rmsRow]

open Cert.RefQkvIdeal.Read in
/-- The reference's combined projection. -/
theorem ref13_apply (x0 x1 x2) (i : Fin 16384) (l : Fin 8192) :
    val_main_v13 (F := Ideal) x0 x1 x2 (ix2 i l) = projRow (fun k => x0 (ix2 i k)) (fun k => x1 (ix1 k)) (fun k => x2 (ix2 k l)) := by
  pointwise [val_main_v13, projRow, ref12_apply]

open Cert.RefQkvIdeal.Read in
/-- The reference's queries. -/
theorem ref_q (x0 x1 x2) (i : Fin 16384) (l : Fin 1024) :
    val_main_v21 (F := Ideal) x0 x1 x2 (ix2 i l) = projRow (fun k => x0 (ix2 i k)) (fun k => x1 (ix1 k)) (fun k => x2 (ix2 k ⟨3072 + l.val, by omega⟩)) := by
  rw [← ref13_apply]
  unfold val_main_v21 val_main_v17
  generalize val_main_v13 (F := Ideal) x0 x1 x2 = a
  pointwise

open Cert.RefQkvIdeal.Read in
/-- The reference's keys. -/
theorem ref_k (x0 x1 x2) (i : Fin 16384) (l : Fin 1024) :
    val_main_v22 (F := Ideal) x0 x1 x2 (ix2 i l) = projRow (fun k => x0 (ix2 i k)) (fun k => x1 (ix1 k)) (fun k => x2 (ix2 k ⟨4096 + l.val, by omega⟩)) := by
  rw [← ref13_apply]
  unfold val_main_v22 val_main_v18
  generalize val_main_v13 (F := Ideal) x0 x1 x2 = a
  pointwise

open Cert.RefQkvIdeal.Read in
/-- The reference's values. -/
theorem ref_v (x0 x1 x2) (i : Fin 16384) (l : Fin 1024) :
    val_main_v23 (F := Ideal) x0 x1 x2 (ix2 i l) = projRow (fun k => x0 (ix2 i k)) (fun k => x1 (ix1 k)) (fun k => x2 (ix2 k ⟨5120 + l.val, by omega⟩)) := by
  rw [← ref13_apply]
  unfold val_main_v23 val_main_v19
  generalize val_main_v13 (F := Ideal) x0 x1 x2 = a
  pointwise

/-- The projections' kernel and reference end holding the same results. -/
theorem algebraic : Cert.algebraic_QkvIdeal_RefQkvIdeal := by
  pair_intro
  · run_from Cert.QkvIdeal.Value.run_blocks m g
  · run_from Cert.RefQkvIdeal.Value.run m' g'
    · rw [result_q m c]
      funext y
      revert y
      intro (y : S16384x1024.Idx)
      idx_vars y
      exact ref_q _ _ _ _ _
    · rw [result_k m c]
      funext y
      revert y
      intro (y : S16384x1024.Idx)
      idx_vars y
      exact ref_k _ _ _ _ _
    · rw [result_v m c]
      funext y
      revert y
      intro (y : S16384x1024.Idx)
      idx_vars y
      exact ref_v _ _ _ _ _

end Cert.QkvIdeal.Proved
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import Idealize.ShloMosaic.Adequacy
public import Idealize.ShloMosaic.Init
public import Idealize.ShloMosaic.Lib.Quiescent
public import proofs.«01_k».proof.Proof.Gen.KernelIdeal.Value
public import proofs.«01_k».proof.Proof.Gen.FfnIdeal.Value
public import proofs.«01_k».proof.Proof.Gen.ReferenceIdeal.Run
public import proofs.«01_k».proof.Proof.Gen.RefFfnIdeal.Run
public import proofs.«01_k».proof.Proof.Gen.ReferenceIdeal.Read
public import proofs.«01_k».proof.Proof.Gen.RefFfnIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.RefMixIdeal
public import proofs.«01_k».proof.Proof.Gen.RefMixIdeal.Run
public import proofs.«01_k».proof.Proof.Gen.RefMixIdeal.Read
public import proofs.«01_k».proof.Proof.Gen.RefQkvIdeal
public import proofs.«01_k».proof.Proof.Gen.RefQkvIdeal.Run
public import proofs.«01_k».proof.Proof.Gen.RefQkvIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.RefFfnSampleIdeal
public import proofs.«01_k».proof.Proof.Gen.RefFfnSampleIdeal.Run
public import proofs.«01_k».proof.Proof.Gen.RefFfnSampleIdeal.Read
public import proofs.«01_k».proof.Proof.FfnClaim
public import proofs.«01_k».proof.Proof.FfnSampleClaim
public import proofs.«01_k».proof.Proof.AttnClaim
public import proofs.«01_k».proof.Proof.MixClaim
public import proofs.«01_k».proof.Proof.QkvClaim
public import proofs.«01_k».proof.Proof.Gen.Pre_finite

/-! The certificate: the frames of the attention, the feed-forward half-step (at the prompt's and at the
sample's tokens), the mixing half and the projections, and that each of the four kernels
computes what its reference computes. -/

@[expose] public section

set_option maxRecDepth 16384

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.RefFfnIdeal.Gen.facts,
  Cert.Mix.Gen.facts, Cert.MixIdeal.Gen.facts, Cert.RefMixIdeal.Gen.facts, Cert.Qkv.Gen.facts, Cert.QkvIdeal.Gen.facts, Cert.RefQkvIdeal.Gen.facts,
  Cert.FfnSample.Gen.facts, Cert.FfnSampleIdeal.Gen.facts, Cert.RefFfnSampleIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Ffn.Gen.frame m ρ,
  fun m ρ _ => Cert.FfnIdeal.Gen.frame m ρ,
  fun m ρ _ => (θ_run Cert.RefFfnIdeal.defs _ _).mono (fun r h => ⟨fun c => (h c).2, sem_eq_zero_of_no_sems (by decide) r.2⟩)
    (Cert.RefFfnIdeal.Value.run (F := Ideal) m ρ),
  fun m ρ _ => Cert.Mix.Gen.frame m ρ,
  fun m ρ _ => Cert.MixIdeal.Gen.frame m ρ,
  fun m ρ _ => (θ_run Cert.RefMixIdeal.defs _ _).mono (fun r h => ⟨fun c => (h c).2, sem_eq_zero_of_no_sems (by decide) r.2⟩)
    (Cert.RefMixIdeal.Value.run (F := Ideal) m ρ),
  fun m ρ _ => Cert.Qkv.Gen.frame m ρ,
  fun m ρ _ => Cert.QkvIdeal.Gen.frame m ρ,
  fun m ρ _ => (θ_run Cert.RefQkvIdeal.defs _ _).mono (fun r h => ⟨fun c => (h c).2.2.2, sem_eq_zero_of_no_sems (by decide) r.2⟩)
    (Cert.RefQkvIdeal.Value.run (F := Ideal) m ρ),
  fun m ρ _ => Cert.FfnSample.Gen.frame m ρ,
  fun m ρ _ => Cert.FfnSampleIdeal.Gen.frame m ρ,
  fun m ρ _ => (θ_run Cert.RefFfnSampleIdeal.defs _ _).mono (fun r h => ⟨fun c => (h c).2, sem_eq_zero_of_no_sems (by decide) r.2⟩)
    (Cert.RefFfnSampleIdeal.Value.run (F := Ideal) m ρ),
  trivial, Cert.KernelIdeal.Proved.algebraic, trivial, Cert.FfnIdeal.Proved.algebraic,
  trivial, Cert.MixIdeal.Proved.algebraic, trivial, Cert.QkvIdeal.Proved.algebraic,
  trivial, Cert.FfnSampleIdeal.Proved.algebraic⟩

end Cert.Proof

end
